-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "inv_agents" .f32 0x3D3A2E8C#32 ((22⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x128x22x8 : Shape := ⟨4, ![32, 128, 22, 8]⟩
abbrev S32x128x22x22 : Shape := ⟨4, ![32, 128, 22, 22]⟩
abbrev S32x128x22 : Shape := ⟨3, ![32, 128, 22]⟩
abbrev S8x32 : Shape := ⟨2, ![8, 32]⟩
abbrev S32 : Shape := ⟨1, ![32]⟩
abbrev S32x32 : Shape := ⟨2, ![32, 32]⟩
abbrev S512x32 : Shape := ⟨2, ![512, 32]⟩
abbrev S512x128 : Shape := ⟨2, ![512, 128]⟩
abbrev S512 : Shape := ⟨1, ![512]⟩
abbrev S256x1 : Shape := ⟨2, ![256, 1]⟩
abbrev S1 : Shape := ⟨1, ![1]⟩
abbrev S128x32x22x8 : Shape := ⟨4, ![128, 32, 22, 8]⟩
abbrev S4096x176 : Shape := ⟨2, ![4096, 176]⟩
abbrev S_ : Shape := ⟨0, ![]⟩
abbrev S176x768 : Shape := ⟨2, ![176, 768]⟩
abbrev S8x704 : Shape := ⟨2, ![8, 704]⟩
abbrev S128x704 : Shape := ⟨2, ![128, 704]⟩
abbrev S48x704 : Shape := ⟨2, ![48, 704]⟩
abbrev S176x704 : Shape := ⟨2, ![176, 704]⟩
abbrev S1x768 : Shape := ⟨2, ![1, 768]⟩
abbrev S1x32 : Shape := ⟨2, ![1, 32]⟩
abbrev S22x32 : Shape := ⟨2, ![22, 32]⟩
abbrev S704 : Shape := ⟨1, ![704]⟩
abbrev S2 : Shape := ⟨1, ![2]⟩
abbrev S1x512 : Shape := ⟨2, ![1, 512]⟩
abbrev S32x512 : Shape := ⟨2, ![32, 512]⟩
abbrev S128x512 : Shape := ⟨2, ![128, 512]⟩
abbrev S1x1 : Shape := ⟨2, ![1, 1]⟩
abbrev S32x1 : Shape := ⟨2, ![32, 1]⟩
abbrev S4096x512 : Shape := ⟨2, ![4096, 512]⟩
abbrev S4096x768 : Shape := ⟨2, ![4096, 768]⟩
abbrev S4096x128 : Shape := ⟨2, ![4096, 128]⟩
abbrev S4096x32 : Shape := ⟨2, ![4096, 32]⟩
abbrev S32x128 : Shape := ⟨2, ![32, 128]⟩
abbrev S32x256 : Shape := ⟨2, ![32, 256]⟩

abbrev nBuf : Space → Nat
  | .hbm => 95
  | .vmem => 16
  | .smem => 0
  | _ => 0

abbrev bufTy : (tb : Table) → Fin (tcTables nBuf tb) → BufTy
  | .hbm, ⟨0, _⟩ => ⟨S32x128x22x8, .f32⟩
  | .hbm, ⟨1, _⟩ => ⟨S32x128x22x22, .f32⟩
  | .hbm, ⟨2, _⟩ => ⟨S32x128x22, .i32⟩
  | .hbm, ⟨3, _⟩ => ⟨S8x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S512x32, .f32⟩
  | .hbm, ⟨10, _⟩ => ⟨S512x128, .f32⟩
  | .hbm, ⟨11, _⟩ => ⟨S512, .f32⟩
  | .hbm, ⟨12, _⟩ => ⟨S512, .f32⟩
  | .hbm, ⟨13, _⟩ => ⟨S512x32, .f32⟩
  | .hbm, ⟨14, _⟩ => ⟨S512x128, .f32⟩
  | .hbm, ⟨15, _⟩ => ⟨S512, .f32⟩
  | .hbm, ⟨16, _⟩ => ⟨S512, .f32⟩
  | .hbm, ⟨17, _⟩ => ⟨S256x1, .f32⟩
  | .hbm, ⟨18, _⟩ => ⟨S1, .f32⟩
  | .hbm, ⟨19, _⟩ => ⟨S128x32x22x8, .f32⟩
  | .hbm, ⟨20, _⟩ => ⟨S4096x176, .f32⟩
  | .hbm, ⟨21, _⟩ => ⟨S_, .f32⟩
  | .hbm, ⟨22, _⟩ => ⟨S176x768, .f32⟩
  | .hbm, ⟨23, _⟩ => ⟨S_, .f32⟩
  | .hbm, ⟨24, _⟩ => ⟨S8x704, .f32⟩
  | .hbm, ⟨25, _⟩ => ⟨S_, .f32⟩
  | .hbm, ⟨26, _⟩ => ⟨S8x704, .f32⟩
  | .hbm, ⟨27, _⟩ => ⟨S_, .f32⟩
  | .hbm, ⟨28, _⟩ => ⟨S8x704, .f32⟩
  | .hbm, ⟨29, _⟩ => ⟨S_, .f32⟩
  | .hbm, ⟨30, _⟩ => ⟨S8x704, .f32⟩
  | .hbm, ⟨31, _⟩ => ⟨S_, .f32⟩
  | .hbm, ⟨32, _⟩ => ⟨S8x704, .f32⟩
  | .hbm, ⟨33, _⟩ => ⟨S_, .f32⟩
  | .hbm, ⟨34, _⟩ => ⟨S8x704, .f32⟩
  | .hbm, ⟨35, _⟩ => ⟨S_, .f32⟩
  | .hbm, ⟨36, _⟩ => ⟨S8x704, .f32⟩
  | .hbm, ⟨37, _⟩ => ⟨S_, .f32⟩
  | .hbm, ⟨38, _⟩ => ⟨S8x704, .f32⟩
  | .hbm, ⟨39, _⟩ => ⟨S_, .f32⟩
  | .hbm, ⟨40, _⟩ => ⟨S8x704, .f32⟩
  | .hbm, ⟨41, _⟩ => ⟨S_, .f32⟩
  | .hbm, ⟨42, _⟩ => ⟨S8x704, .f32⟩
  | .hbm, ⟨43, _⟩ => ⟨S_, .f32⟩
  | .hbm, ⟨44, _⟩ => ⟨S8x704, .f32⟩
  | .hbm, ⟨45, _⟩ => ⟨S_, .f32⟩
  | .hbm, ⟨46, _⟩ => ⟨S8x704, .f32⟩
  | .hbm, ⟨47, _⟩ => ⟨S_, .f32⟩
  | .hbm, ⟨48, _⟩ => ⟨S8x704, .f32⟩
  | .hbm, ⟨49, _⟩ => ⟨S_, .f32⟩
  | .hbm, ⟨50, _⟩ => ⟨S8x704, .f32⟩
  | .hbm, ⟨51, _⟩ => ⟨S_, .f32⟩
  | .hbm, ⟨52, _⟩ => ⟨S8x704, .f32⟩
  | .hbm, ⟨53, _⟩ => ⟨S_, .f32⟩
  | .hbm, ⟨54, _⟩ => ⟨S8x704, .f32⟩
  | .hbm, ⟨55, _⟩ => ⟨S_, .f32⟩
  | .hbm, ⟨56, _⟩ => ⟨S8x704, .f32⟩
  | .hbm, ⟨57, _⟩ => ⟨S_, .f32⟩
  | .hbm, ⟨58, _⟩ => ⟨S8x704, .f32⟩
  | .hbm, ⟨59, _⟩ => ⟨S_, .f32⟩
  | .hbm, ⟨60, _⟩ => ⟨S8x704, .f32⟩
  | .hbm, ⟨61, _⟩ => ⟨S_, .f32⟩
  | .hbm, ⟨62, _⟩ => ⟨S8x704, .f32⟩
  | .hbm, ⟨63, _⟩ => ⟨S_, .f32⟩
  | .hbm, ⟨64, _⟩ => ⟨S8x704, .f32⟩
  | .hbm, ⟨65, _⟩ => ⟨S_, .f32⟩
  | .hbm, ⟨66, _⟩ => ⟨S8x704, .f32⟩
  | .hbm, ⟨67, _⟩ => ⟨S128x704, .f32⟩
  | .hbm, ⟨68, _⟩ => ⟨S48x704, .f32⟩
  | .hbm, ⟨69, _⟩ => ⟨S176x704, .f32⟩
  | .hbm, ⟨70, _⟩ => ⟨S_, .i32⟩
  | .hbm, ⟨71, _⟩ => ⟨S1, .i32⟩
  | .hbm, ⟨72, _⟩ => ⟨S176x768, .f32⟩
  | .hbm, ⟨73, _⟩ => ⟨S_, .f32⟩
  | .hbm, ⟨74, _⟩ => ⟨S1x768, .f32⟩
  | .hbm, ⟨75, _⟩ => ⟨S1x32, .f32⟩
  | .hbm, ⟨76, _⟩ => ⟨S22x32, .f32⟩
  | .hbm, ⟨77, _⟩ => ⟨S704, .f32⟩
  | .hbm, ⟨78, _⟩ => ⟨S_, .i32⟩
  | .hbm, ⟨79, _⟩ => ⟨S1, .i32⟩
  | .hbm, ⟨80, _⟩ => ⟨S_, .i32⟩
  | .hbm, ⟨81, _⟩ => ⟨S1, .i32⟩
  | .hbm, ⟨82, _⟩ => ⟨S2, .i32⟩
  | .hbm, ⟨83, _⟩ => ⟨S1x768, .f32⟩
  | .hbm, ⟨84, _⟩ => ⟨S512, .f32⟩
  | .hbm, ⟨85, _⟩ => ⟨S1x512, .f32⟩
  | .hbm, ⟨86, _⟩ => ⟨S512, .f32⟩
  | .hbm, ⟨87, _⟩ => ⟨S1x512, .f32⟩
  | .hbm, ⟨88, _⟩ => ⟨S1x32, .f32⟩
  | .hbm, ⟨89, _⟩ => ⟨S1x32, .f32⟩
  | .hbm, ⟨90, _⟩ => ⟨S32x512, .f32⟩
  | .hbm, ⟨91, _⟩ => ⟨S128x512, .f32⟩
  | .hbm, ⟨92, _⟩ => ⟨S32x512, .f32⟩
  | .hbm, ⟨93, _⟩ => ⟨S1x1, .f32⟩
  | .hbm, ⟨94, _⟩ => ⟨S32x1, .f32⟩
  | .local _ .vmem, ⟨0, _⟩ => ⟨S4096x176, .f32⟩
  | .local _ .vmem, ⟨1, _⟩ => ⟨S176x768, .f32⟩
  | .local _ .vmem, ⟨2, _⟩ => ⟨S1x768, .f32⟩
  | .local _ .vmem, ⟨3, _⟩ => ⟨S32x32, .f32⟩
  | .local _ .vmem, ⟨4, _⟩ => ⟨S1x32, .f32⟩
  | .local _ .vmem, ⟨5, _⟩ => ⟨S32x32, .f32⟩
  | .local _ .vmem, ⟨6, _⟩ => ⟨S1x32, .f32⟩
  | .local _ .vmem, ⟨7, _⟩ => ⟨S32x512, .f32⟩
  | .local _ .vmem, ⟨8, _⟩ => ⟨S128x512, .f32⟩
  | .local _ .vmem, ⟨9, _⟩ => ⟨S1x512, .f32⟩
  | .local _ .vmem, ⟨10, _⟩ => ⟨S32x512, .f32⟩
  | .local _ .vmem, ⟨11, _⟩ => ⟨S1x512, .f32⟩
  | .local _ .vmem, ⟨12, _⟩ => ⟨S256x1, .f32⟩
  | .local _ .vmem, ⟨13, _⟩ => ⟨S1x1, .f32⟩
  | .local _ .vmem, ⟨14, _⟩ => ⟨S32x1, .f32⟩
  | .local _ .vmem, ⟨15, _⟩ => ⟨S4096x512, .f32⟩
  | _, _ => ⟨S32x128x22x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_call0_cst : Ref sig .tc := ⟨.hbm, 23, rfl⟩
abbrev main_call0_v22 : Ref sig .tc := ⟨.hbm, 24, rfl⟩
abbrev main_call0_cst_0 : Ref sig .tc := ⟨.hbm, 25, rfl⟩
abbrev main_call0_v23 : Ref sig .tc := ⟨.hbm, 26, rfl⟩
abbrev main_call0_cst_1 : Ref sig .tc := ⟨.hbm, 27, rfl⟩
abbrev main_call0_v24 : Ref sig .tc := ⟨.hbm, 28, rfl⟩
abbrev main_call0_cst_2 : Ref sig .tc := ⟨.hbm, 29, rfl⟩
abbrev main_call0_v25 : Ref sig .tc := ⟨.hbm, 30, rfl⟩
abbrev main_call0_cst_3 : Ref sig .tc := ⟨.hbm, 31, rfl⟩
abbrev main_call0_v26 : Ref sig .tc := ⟨.hbm, 32, rfl⟩
abbrev main_call0_cst_4 : Ref sig .tc := ⟨.hbm, 33, rfl⟩
abbrev main_call0_v27 : Ref sig .tc := ⟨.hbm, 34, rfl⟩
abbrev main_call0_cst_5 : Ref sig .tc := ⟨.hbm, 35, rfl⟩
abbrev main_call0_v28 : Ref sig .tc := ⟨.hbm, 36, rfl⟩
abbrev main_call0_cst_6 : Ref sig .tc := ⟨.hbm, 37, rfl⟩
abbrev main_call0_v29 : Ref sig .tc := ⟨.hbm, 38, rfl⟩
abbrev main_call0_cst_7 : Ref sig .tc := ⟨.hbm, 39, rfl⟩
abbrev main_call0_v30 : Ref sig .tc := ⟨.hbm, 40, rfl⟩
abbrev main_call0_cst_8 : Ref sig .tc := ⟨.hbm, 41, rfl⟩
abbrev main_call0_v31 : Ref sig .tc := ⟨.hbm, 42, rfl⟩
abbrev main_call0_cst_9 : Ref sig .tc := ⟨.hbm, 43, rfl⟩
abbrev main_call0_v32 : Ref sig .tc := ⟨.hbm, 44, rfl⟩
abbrev main_call0_cst_10 : Ref sig .tc := ⟨.hbm, 45, rfl⟩
abbrev main_call0_v33 : Ref sig .tc := ⟨.hbm, 46, rfl⟩
abbrev main_call0_cst_11 : Ref sig .tc := ⟨.hbm, 47, rfl⟩
abbrev main_call0_v34 : Ref sig .tc := ⟨.hbm, 48, rfl⟩
abbrev main_call0_cst_12 : Ref sig .tc := ⟨.hbm, 49, rfl⟩
abbrev main_call0_v35 : Ref sig .tc := ⟨.hbm, 50, rfl⟩
abbrev main_call0_cst_13 : Ref sig .tc := ⟨.hbm, 51, rfl⟩
abbrev main_call0_v36 : Ref sig .tc := ⟨.hbm, 52, rfl⟩
abbrev main_call0_cst_14 : Ref sig .tc := ⟨.hbm, 53, rfl⟩
abbrev main_call0_v37 : Ref sig .tc := ⟨.hbm, 54, rfl⟩
abbrev main_call0_cst_15 : Ref sig .tc := ⟨.hbm, 55, rfl⟩
abbrev main_call0_v38 : Ref sig .tc := ⟨.hbm, 56, rfl⟩
abbrev main_call0_cst_16 : Ref sig .tc := ⟨.hbm, 57, rfl⟩
abbrev main_call0_v39 : Ref sig .tc := ⟨.hbm, 58, rfl⟩
abbrev main_call0_cst_17 : Ref sig .tc := ⟨.hbm, 59, rfl⟩
abbrev main_call0_v40 : Ref sig .tc := ⟨.hbm, 60, rfl⟩
abbrev main_call0_cst_18 : Ref sig .tc := ⟨.hbm, 61, rfl⟩
abbrev main_call0_v41 : Ref sig .tc := ⟨.hbm, 62, rfl⟩
abbrev main_call0_cst_19 : Ref sig .tc := ⟨.hbm, 63, rfl⟩
abbrev main_call0_v42 : Ref sig .tc := ⟨.hbm, 64, rfl⟩
abbrev main_call0_cst_20 : Ref sig .tc := ⟨.hbm, 65, rfl⟩
abbrev main_call0_v43 : Ref sig .tc := ⟨.hbm, 66, rfl⟩
abbrev main_call0_v44 : Ref sig .tc := ⟨.hbm, 67, rfl⟩
abbrev main_call0_v45 : Ref sig .tc := ⟨.hbm, 68, rfl⟩
abbrev main_v3 : Ref sig .tc := ⟨.hbm, 69, rfl⟩
abbrev main_c : Ref sig .tc := ⟨.hbm, 70, rfl⟩
abbrev main_v4 : Ref sig .tc := ⟨.hbm, 71, rfl⟩
abbrev main_v5 : Ref sig .tc := ⟨.hbm, 72, rfl⟩
abbrev main_cst_0 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_v9 : Ref sig .tc := ⟨.hbm, 77, rfl⟩
abbrev main_c_1 : Ref sig .tc := ⟨.hbm, 78, rfl⟩
abbrev main_v10 : Ref sig .tc := ⟨.hbm, 79, rfl⟩
abbrev main_c_2 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v61 : BitVec 32 := Scalar.addi c0_i32 c128_i32
  let c1_i32 : BitVec 32 := 1#32
  ⟨c0_i32, v61, c1_i32⟩
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c32_i32 : BitVec 32 := 32#32
  let v88 : BitVec 32 := Scalar.muli arg16 c32_i32
  let v89 : Index := Scalar.indexCast v88
  let c0_43 : Index := 0#32
  ![v89.toNat, 0]
abbrev stage0_0 : Fin 1 → Memref sig .tc .vmem S4096x176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S176x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== KernelIdeal.lean ====
variable {F : FTy → Type} [FloatOps F] [Named F]
def κ : String → Option EReal := fun
  | "inv_agents" => some ((22⁻¹ : ℝ) : EReal)
  | _ => none
-- ==== ReferenceIdeal.lean ====
abbrev S32x128x22x8 : Shape := ⟨4, ![32, 128, 22, 8]⟩
abbrev S32x128x22x22 : Shape := ⟨4, ![32, 128, 22, 22]⟩
abbrev S32x128x22 : Shape := ⟨3, ![32, 128, 22]⟩
abbrev S8x32 : Shape := ⟨2, ![8, 32]⟩
abbrev S32 : Shape := ⟨1, ![32]⟩
abbrev S32x32 : Shape := ⟨2, ![32, 32]⟩
abbrev S512x32 : Shape := ⟨2, ![512, 32]⟩
abbrev S512x128 : Shape := ⟨2, ![512, 128]⟩
abbrev S512 : Shape := ⟨1, ![512]⟩
abbrev S256x1 : Shape := ⟨2, ![256, 1]⟩
abbrev S1 : Shape := ⟨1, ![1]⟩
abbrev S4096x22x21 : Shape := ⟨3, ![4096, 22, 21]⟩
abbrev S_ : Shape := ⟨0, ![]⟩
abbrev S1892352 : Shape := ⟨1, ![1892352]⟩
abbrev S90112x8 : Shape := ⟨2, ![90112, 8]⟩
abbrev S90112x32 : Shape := ⟨2, ![90112, 32]⟩
abbrev S1x32 : Shape := ⟨2, ![1, 32]⟩
abbrev S90112 : Shape := ⟨1, ![90112]⟩
abbrev S1892352x1 : Shape := ⟨2, ![1892352, 1]⟩
abbrev S1892352x32 : Shape := ⟨2, ![1892352, 32]⟩
abbrev S90112x1 : Shape := ⟨2, ![90112, 1]⟩
abbrev S4096x22x32 : Shape := ⟨3, ![4096, 22, 32]⟩
abbrev S4096x32 : Shape := ⟨2, ![4096, 32]⟩
abbrev S32x128x32 : Shape := ⟨3, ![32, 128, 32]⟩
abbrev S128x32x32 : Shape := ⟨3, ![128, 32, 32]⟩
abbrev S32x128 : Shape := ⟨2, ![32, 128]⟩
abbrev S128x32x128 : Shape := ⟨3, ![128, 32, 128]⟩
abbrev S1x32x32 : Shape := ⟨3, ![1, 32, 32]⟩
abbrev S32x512 : Shape := ⟨2, ![32, 512]⟩
abbrev S1x512 : Shape := ⟨2, ![1, 512]⟩
abbrev S128x512 : Shape := ⟨2, ![128, 512]⟩
abbrev S1x32x128 : Shape := ⟨3, ![1, 32, 128]⟩
abbrev S128x32x256 : Shape := ⟨3, ![128, 32, 256]⟩
abbrev S1x32x256 : Shape := ⟨3, ![1, 32, 256]⟩
abbrev S32x256 : Shape := ⟨2, ![32, 256]⟩
abbrev S32x1 : Shape := ⟨2, ![32, 1]⟩
abbrev S1x1 : Shape := ⟨2, ![1, 1]⟩

abbrev nBuf : Space → Nat
  | .hbm => 346
  | .vmem => 0
  | .smem => 0
  | _ => 0

abbrev hbmTy0_0 (i : Nat) : BufTy := match i % 128 with
  | 0 => ⟨S32x128x22x8, .f32⟩
  | 1 => ⟨S32x128x22x22, .f32⟩
  | 2 => ⟨S32x128x22, .i32⟩
  | 3 => ⟨S8x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S512x32, .f32⟩
  | 10 => ⟨S512x128, .f32⟩
  | 11 => ⟨S512, .f32⟩
  | 12 => ⟨S512, .f32⟩
  | 13 => ⟨S512x32, .f32⟩
  | 14 => ⟨S512x128, .f32⟩
  | 15 => ⟨S512, .f32⟩
  | 16 => ⟨S512, .f32⟩
  | 17 => ⟨S256x1, .f32⟩
  | 18 => ⟨S1, .f32⟩
  | 19 => ⟨S4096x22x21, .i32⟩
  | 20 => ⟨S4096x22x21, .i32⟩
  | 21 => ⟨S4096x22x21, .i32⟩
  | 22 => ⟨S4096x22x21, .i1⟩
  | 23 => ⟨S_, .i32⟩
  | 24 => ⟨S4096x22x21, .i32⟩
  | 25 => ⟨S4096x22x21, .i32⟩
  | 26 => ⟨S4096x22x21, .i32⟩
  | 27 => ⟨S_, .i32⟩
  | 28 => ⟨S4096x22x21, .i32⟩
  | 29 => ⟨S4096x22x21, .i32⟩
  | 30 => ⟨S4096x22x21, .i32⟩
  | 31 => ⟨S1892352, .i32⟩
  | 32 => ⟨S_, .i32⟩
  | 33 => ⟨S4096x22x21, .i32⟩
  | 34 => ⟨S4096x22x21, .i32⟩
  | 35 => ⟨S4096x22x21, .i32⟩
  | 36 => ⟨S1892352, .i32⟩
  | 37 => ⟨S90112x8, .f32⟩
  | 38 => ⟨S90112x32, .f32⟩
  | 39 => ⟨S1x32, .f32⟩
  | 40 => ⟨S90112x32, .f32⟩
  | 41 => ⟨S90112x32, .f32⟩
  | 42 => ⟨S_, .f32⟩
  | 43 => ⟨S90112x32, .f32⟩
  | 44 => ⟨S90112x32, .f32⟩
  | 45 => ⟨S90112x32, .f32⟩
  | 46 => ⟨S_, .f32⟩
  | 47 => ⟨S90112, .f32⟩
  | 48 => ⟨S_, .i32⟩
  | 49 => ⟨S1892352, .i32⟩
  | 50 => ⟨S1892352, .i1⟩
  | 51 => ⟨S_, .i32⟩
  | 52 => ⟨S1892352, .i32⟩
  | 53 => ⟨S1892352, .i32⟩
  | 54 => ⟨S1892352, .i32⟩
  | 55 => ⟨S1892352x1, .i32⟩
  | 56 => ⟨S_, .f32⟩
  | 57 => ⟨S1892352, .f32⟩
  | 58 => ⟨S90112, .f32⟩
  | 59 => ⟨S_, .f32⟩
  | 60 => ⟨S90112, .f32⟩
  | 61 => ⟨S90112, .f32⟩
  | 62 => ⟨S90112, .f32⟩
  | 63 => ⟨S_, .f32⟩
  | 64 => ⟨S90112, .f32⟩
  | 65 => ⟨S90112, .f32⟩
  | 66 => ⟨S_, .i32⟩
  | 67 => ⟨S1892352, .i32⟩
  | 68 => ⟨S1892352, .i1⟩
  | 69 => ⟨S_, .i32⟩
  | 70 => ⟨S1892352, .i32⟩
  | 71 => ⟨S1892352, .i32⟩
  | 72 => ⟨S1892352, .i32⟩
  | 73 => ⟨S1892352x1, .i32⟩
  | 74 => ⟨S1892352, .f32⟩
  | 75 => ⟨S_, .i32⟩
  | 76 => ⟨S1892352, .i32⟩
  | 77 => ⟨S1892352, .i1⟩
  | 78 => ⟨S_, .i32⟩
  | 79 => ⟨S1892352, .i32⟩
  | 80 => ⟨S1892352, .i32⟩
  | 81 => ⟨S1892352, .i32⟩
  | 82 => ⟨S1892352x1, .i32⟩
  | 83 => ⟨S1892352, .f32⟩
  | 84 => ⟨S1892352, .f32⟩
  | 85 => ⟨S_, .f32⟩
  | 86 => ⟨S90112x32, .f32⟩
  | 87 => ⟨S1892352x1, .f32⟩
  | 88 => ⟨S_, .i32⟩
  | 89 => ⟨S1892352, .i32⟩
  | 90 => ⟨S1892352, .i1⟩
  | 91 => ⟨S_, .i32⟩
  | 92 => ⟨S1892352, .i32⟩
  | 93 => ⟨S1892352, .i32⟩
  | 94 => ⟨S1892352, .i32⟩
  | 95 => ⟨S1892352x1, .i32⟩
  | 96 => ⟨S1892352x32, .f32⟩
  | 97 => ⟨S1892352x32, .f32⟩
  | 98 => ⟨S1892352x32, .f32⟩
  | 99 => ⟨S_, .i32⟩
  | 100 => ⟨S1892352, .i32⟩
  | 101 => ⟨S1892352, .i1⟩
  | 102 => ⟨S_, .i32⟩
  | 103 => ⟨S1892352, .i32⟩
  | 104 => ⟨S1892352, .i32⟩
  | 105 => ⟨S1892352, .i32⟩
  | 106 => ⟨S1892352x1, .i32⟩
  | 107 => ⟨S90112x32, .f32⟩
  | 108 => ⟨S90112, .f32⟩
  | 109 => ⟨S90112x1, .f32⟩
  | 110 => ⟨S90112x32, .f32⟩
  | 111 => ⟨S90112x32, .f32⟩
  | 112 => ⟨S90112x32, .f32⟩
  | 113 => ⟨S1x32, .f32⟩
  | 114 => ⟨S90112x32, .f32⟩
  | 115 => ⟨S90112x32, .f32⟩
  | 116 => ⟨S_, .f32⟩
  | 117 => ⟨S90112x32, .f32⟩
  | 118 => ⟨S90112x32, .f32⟩
  | 119 => ⟨S90112x32, .f32⟩
  | 120 => ⟨S_, .f32⟩
  | 121 => ⟨S90112, .f32⟩
  | 122 => ⟨S_, .i32⟩
  | 123 => ⟨S1892352, .i32⟩
  | 124 => ⟨S1892352, .i1⟩
  | 125 => ⟨S_, .i32⟩
  | 126 => ⟨S1892352, .i32⟩
  | 127 => ⟨S1892352, .i32⟩
  | _ => ⟨S32x128x22x8, .f32⟩

abbrev hbmTy0_1 (i : Nat) : BufTy := match i % 128 with
  | 0 => ⟨S1892352, .i32⟩
  | 1 => ⟨S1892352x1, .i32⟩
  | 2 => ⟨S_, .f32⟩
  | 3 => ⟨S1892352, .f32⟩
  | 4 => ⟨S90112, .f32⟩
  | 5 => ⟨S_, .f32⟩
  | 6 => ⟨S90112, .f32⟩
  | 7 => ⟨S90112, .f32⟩
  | 8 => ⟨S90112, .f32⟩
  | 9 => ⟨S_, .f32⟩
  | 10 => ⟨S90112, .f32⟩
  | 11 => ⟨S90112, .f32⟩
  | 12 => ⟨S_, .i32⟩
  | 13 => ⟨S1892352, .i32⟩
  | 14 => ⟨S1892352, .i1⟩
  | 15 => ⟨S_, .i32⟩
  | 16 => ⟨S1892352, .i32⟩
  | 17 => ⟨S1892352, .i32⟩
  | 18 => ⟨S1892352, .i32⟩
  | 19 => ⟨S1892352x1, .i32⟩
  | 20 => ⟨S1892352, .f32⟩
  | 21 => ⟨S_, .i32⟩
  | 22 => ⟨S1892352, .i32⟩
  | 23 => ⟨S1892352, .i1⟩
  | 24 => ⟨S_, .i32⟩
  | 25 => ⟨S1892352, .i32⟩
  | 26 => ⟨S1892352, .i32⟩
  | 27 => ⟨S1892352, .i32⟩
  | 28 => ⟨S1892352x1, .i32⟩
  | 29 => ⟨S1892352, .f32⟩
  | 30 => ⟨S1892352, .f32⟩
  | 31 => ⟨S_, .f32⟩
  | 32 => ⟨S90112x32, .f32⟩
  | 33 => ⟨S1892352x1, .f32⟩
  | 34 => ⟨S_, .i32⟩
  | 35 => ⟨S1892352, .i32⟩
  | 36 => ⟨S1892352, .i1⟩
  | 37 => ⟨S_, .i32⟩
  | 38 => ⟨S1892352, .i32⟩
  | 39 => ⟨S1892352, .i32⟩
  | 40 => ⟨S1892352, .i32⟩
  | 41 => ⟨S1892352x1, .i32⟩
  | 42 => ⟨S1892352x32, .f32⟩
  | 43 => ⟨S1892352x32, .f32⟩
  | 44 => ⟨S1892352x32, .f32⟩
  | 45 => ⟨S_, .i32⟩
  | 46 => ⟨S1892352, .i32⟩
  | 47 => ⟨S1892352, .i1⟩
  | 48 => ⟨S_, .i32⟩
  | 49 => ⟨S1892352, .i32⟩
  | 50 => ⟨S1892352, .i32⟩
  | 51 => ⟨S1892352, .i32⟩
  | 52 => ⟨S1892352x1, .i32⟩
  | 53 => ⟨S90112x32, .f32⟩
  | 54 => ⟨S90112, .f32⟩
  | 55 => ⟨S90112x1, .f32⟩
  | 56 => ⟨S90112x32, .f32⟩
  | 57 => ⟨S90112x32, .f32⟩
  | 58 => ⟨S90112x32, .f32⟩
  | 59 => ⟨S1x32, .f32⟩
  | 60 => ⟨S90112x32, .f32⟩
  | 61 => ⟨S90112x32, .f32⟩
  | 62 => ⟨S_, .f32⟩
  | 63 => ⟨S90112x32, .f32⟩
  | 64 => ⟨S90112x32, .f32⟩
  | 65 => ⟨S4096x22x32, .f32⟩
  | 66 => ⟨S_, .f32⟩
  | 67 => ⟨S4096x32, .f32⟩
  | 68 => ⟨S_, .f32⟩
  | 69 => ⟨S4096x32, .f32⟩
  | 70 => ⟨S4096x32, .f32⟩
  | 71 => ⟨S32x128x32, .f32⟩
  | 72 => ⟨S128x32x32, .f32⟩
  | 73 => ⟨S_, .f32⟩
  | 74 => ⟨S32x128, .f32⟩
  | 75 => ⟨S_, .f32⟩
  | 76 => ⟨S32x128, .f32⟩
  | 77 => ⟨S128x32x32, .f32⟩
  | 78 => ⟨S_, .f32⟩
  | 79 => ⟨S128x32x128, .f32⟩
  | 80 => ⟨S_, .f32⟩
  | 81 => ⟨S128x32x128, .f32⟩
  | 82 => ⟨S_, .i32⟩
  | 83 => ⟨S128x32x32, .f32⟩
  | 84 => ⟨S128x32x32, .f32⟩
  | 85 => ⟨S512x32, .f32⟩
  | 86 => ⟨S512, .f32⟩
  | 87 => ⟨S512x128, .f32⟩
  | 88 => ⟨S512, .f32⟩
  | 89 => ⟨S512x32, .f32⟩
  | 90 => ⟨S512, .f32⟩
  | 91 => ⟨S512x128, .f32⟩
  | 92 => ⟨S512, .f32⟩
  | 93 => ⟨S_, .i32⟩
  | 94 => ⟨S32x128, .f32⟩
  | 95 => ⟨S32x128, .f32⟩
  | 96 => ⟨S32x128, .f32⟩
  | 97 => ⟨S32x128, .f32⟩
  | 98 => ⟨S128x32x128, .f32⟩
  | 99 => ⟨S128x32x128, .f32⟩
  | 100 => ⟨S_, .i32⟩
  | 101 => ⟨S_, .i1⟩
  | 102 => ⟨S_, .i32⟩
  | 103 => ⟨S_, .i32⟩
  | 104 => ⟨S1x32x32, .f32⟩
  | 105 => ⟨S32x32, .f32⟩
  | 106 => ⟨S_, .i32⟩
  | 107 => ⟨S_, .i32⟩
  | 108 => ⟨S1x32x32, .f32⟩
  | 109 => ⟨S32x32, .f32⟩
  | 110 => ⟨S32x512, .f32⟩
  | 111 => ⟨S32x512, .f32⟩
  | 112 => ⟨S1x512, .f32⟩
  | 113 => ⟨S32x512, .f32⟩
  | 114 => ⟨S32x512, .f32⟩
  | 115 => ⟨S128x512, .f32⟩
  | 116 => ⟨S32x512, .f32⟩
  | 117 => ⟨S32x512, .f32⟩
  | 118 => ⟨S1x512, .f32⟩
  | 119 => ⟨S32x512, .f32⟩
  | 120 => ⟨S32x512, .f32⟩
  | 121 => ⟨S32x128, .f32⟩
  | 122 => ⟨S32x128, .f32⟩
  | 123 => ⟨S32x128, .f32⟩
  | 124 => ⟨S32x128, .f32⟩
  | 125 => ⟨S32x128, .f32⟩
  | 126 => ⟨S32x128, .f32⟩
  | 127 => ⟨S_, .f32⟩
  | _ => ⟨S32x128x22x8, .f32⟩

abbrev hbmTy0_2 (i : Nat) : BufTy := match i % 128 with
  | 0 => ⟨S32x128, .f32⟩
  | 1 => ⟨S32x128, .f32⟩
  | 2 => ⟨S_, .f32⟩
  | 3 => ⟨S32x128, .f32⟩
  | 4 => ⟨S32x128, .f32⟩
  | 5 => ⟨S32x128, .f32⟩
  | 6 => ⟨S32x128, .f32⟩
  | 7 => ⟨S_, .f32⟩
  | 8 => ⟨S32x128, .f32⟩
  | 9 => ⟨S32x128, .f32⟩
  | 10 => ⟨S_, .f32⟩
  | 11 => ⟨S32x128, .f32⟩
  | 12 => ⟨S32x128, .f32⟩
  | 13 => ⟨S32x128, .f32⟩
  | 14 => ⟨S32x128, .f32⟩
  | 15 => ⟨S32x128, .f32⟩
  | 16 => ⟨S_, .f32⟩
  | 17 => ⟨S32x128, .f32⟩
  | 18 => ⟨S32x128, .f32⟩
  | 19 => ⟨S_, .f32⟩
  | 20 => ⟨S32x128, .f32⟩
  | 21 => ⟨S32x128, .f32⟩
  | 22 => ⟨S32x128, .f32⟩
  | 23 => ⟨S32x128, .f32⟩
  | 24 => ⟨S32x128, .f32⟩
  | 25 => ⟨S32x128, .f32⟩
  | 26 => ⟨S32x128, .f32⟩
  | 27 => ⟨S32x512, .f32⟩
  | 28 => ⟨S32x512, .f32⟩
  | 29 => ⟨S1x512, .f32⟩
  | 30 => ⟨S32x512, .f32⟩
  | 31 => ⟨S32x512, .f32⟩
  | 32 => ⟨S128x512, .f32⟩
  | 33 => ⟨S32x512, .f32⟩
  | 34 => ⟨S32x512, .f32⟩
  | 35 => ⟨S1x512, .f32⟩
  | 36 => ⟨S32x512, .f32⟩
  | 37 => ⟨S32x512, .f32⟩
  | 38 => ⟨S32x128, .f32⟩
  | 39 => ⟨S32x128, .f32⟩
  | 40 => ⟨S32x128, .f32⟩
  | 41 => ⟨S32x128, .f32⟩
  | 42 => ⟨S32x128, .f32⟩
  | 43 => ⟨S32x128, .f32⟩
  | 44 => ⟨S_, .f32⟩
  | 45 => ⟨S32x128, .f32⟩
  | 46 => ⟨S32x128, .f32⟩
  | 47 => ⟨S_, .f32⟩
  | 48 => ⟨S32x128, .f32⟩
  | 49 => ⟨S32x128, .f32⟩
  | 50 => ⟨S32x128, .f32⟩
  | 51 => ⟨S32x128, .f32⟩
  | 52 => ⟨S_, .f32⟩
  | 53 => ⟨S32x128, .f32⟩
  | 54 => ⟨S32x128, .f32⟩
  | 55 => ⟨S_, .f32⟩
  | 56 => ⟨S32x128, .f32⟩
  | 57 => ⟨S32x128, .f32⟩
  | 58 => ⟨S32x128, .f32⟩
  | 59 => ⟨S32x128, .f32⟩
  | 60 => ⟨S32x128, .f32⟩
  | 61 => ⟨S_, .f32⟩
  | 62 => ⟨S32x128, .f32⟩
  | 63 => ⟨S32x128, .f32⟩
  | 64 => ⟨S_, .f32⟩
  | 65 => ⟨S32x128, .f32⟩
  | 66 => ⟨S32x128, .f32⟩
  | 67 => ⟨S32x128, .f32⟩
  | 68 => ⟨S32x128, .f32⟩
  | 69 => ⟨S32x128, .f32⟩
  | 70 => ⟨S32x128, .f32⟩
  | 71 => ⟨S32x128, .f32⟩
  | 72 => ⟨S1x32x128, .f32⟩
  | 73 => ⟨S_, .i32⟩
  | 74 => ⟨S_, .i32⟩
  | 75 => ⟨S128x32x128, .f32⟩
  | 76 => ⟨S1x32x128, .f32⟩
  | 77 => ⟨S_, .i32⟩
  | 78 => ⟨S_, .i32⟩
  | 79 => ⟨S128x32x128, .f32⟩
  | 80 => ⟨S_, .i32⟩
  | 81 => ⟨S_, .i32⟩
  | 82 => ⟨S128x32x128, .f32⟩
  | 83 => ⟨S128x32x256, .f32⟩
  | 84 => ⟨S1x32x256, .f32⟩
  | 85 => ⟨S32x256, .f32⟩
  | 86 => ⟨S32x1, .f32⟩
  | 87 => ⟨S1x1, .f32⟩
  | 88 => ⟨S32x1, .f32⟩
  | 89 => ⟨S32x1, .f32⟩
  | _ => ⟨S32x128x22x8, .f32⟩

abbrev hbmTy (i : Nat) : BufTy := match i / 128 with
  | 0 => hbmTy0_0 i
  | 1 => hbmTy0_1 i
  | 2 => hbmTy0_2 i
  | _ => ⟨S32x128x22x8, .f32⟩

abbrev bufTy : (tb : Table) → Fin (tcTables nBuf tb) → BufTy
  | .hbm, ⟨i, _⟩ => hbmTy i
  | _, _ => ⟨S32x128x22x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call1_cst : Ref sig .tc := ⟨.hbm, 42, rfl⟩
abbrev main_call1_v0 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_c_2 : Ref sig .tc := ⟨.hbm, 48, rfl⟩
abbrev main_v23 : Ref sig .tc := ⟨.hbm, 49, rfl⟩
abbrev main_v24 : Ref sig .tc := ⟨.hbm, 50, rfl⟩
abbrev main_c_3 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_4 : Ref sig .tc := ⟨.hbm, 56, rfl⟩
abbrev main_v29 : Ref sig .tc := ⟨.hbm, 57, rfl⟩
abbrev main_v30 : Ref sig .tc := ⟨.hbm, 58, rfl⟩
abbrev main_cst_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_c_7 : Ref sig .tc := ⟨.hbm, 66, rfl⟩
abbrev main_v36 : Ref sig .tc := ⟨.hbm, 67, rfl⟩
abbrev main_v37 : Ref sig .tc := ⟨.hbm, 68, rfl⟩
abbrev main_c_8 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_9 : Ref sig .tc := ⟨.hbm, 75, rfl⟩
abbrev main_v43 : Ref sig .tc := ⟨.hbm, 76, rfl⟩
abbrev main_v44 : Ref sig .tc := ⟨.hbm, 77, rfl⟩
abbrev main_c_10 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_11 : Ref sig .tc := ⟨.hbm, 85, rfl⟩
abbrev main_v51 : Ref sig .tc := ⟨.hbm, 86, rfl⟩
abbrev main_v52 : Ref sig .tc := ⟨.hbm, 87, rfl⟩
abbrev main_c_12 : Ref sig .tc := ⟨.hbm, 88, rfl⟩
abbrev main_v53 : Ref sig .tc := ⟨.hbm, 89, rfl⟩
abbrev main_v54 : Ref sig .tc := ⟨.hbm, 90, rfl⟩
abbrev main_c_13 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_14 : Ref sig .tc := ⟨.hbm, 99, rfl⟩
abbrev main_v62 : Ref sig .tc := ⟨.hbm, 100, rfl⟩
abbrev main_v63 : Ref sig .tc := ⟨.hbm, 101, rfl⟩
abbrev main_c_15 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_call2_cst : Ref sig .tc := ⟨.hbm, 116, rfl⟩
abbrev main_call2_v0 : Ref sig .tc := ⟨.hbm, 117, rfl⟩
abbrev main_v77 : Ref sig .tc := ⟨.hbm, 118, rfl⟩
abbrev main_v78 : Ref sig .tc := ⟨.hbm, 119, rfl⟩
abbrev main_cst_16 : Ref sig .tc := ⟨.hbm, 120, rfl⟩
abbrev main_v79 : Ref sig .tc := ⟨.hbm, 121, rfl⟩
abbrev main_c_17 : Ref sig .tc := ⟨.hbm, 122, rfl⟩
abbrev main_v80 : Ref sig .tc := ⟨.hbm, 123, rfl⟩
abbrev main_v81 : Ref sig .tc := ⟨.hbm, 124, rfl⟩
abbrev main_c_18 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_19 : Ref sig .tc := ⟨.hbm, 130, rfl⟩
abbrev main_v86 : Ref sig .tc := ⟨.hbm, 131, rfl⟩
abbrev main_v87 : Ref sig .tc := ⟨.hbm, 132, rfl⟩
abbrev main_cst_20 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_21 : Ref sig .tc := ⟨.hbm, 137, rfl⟩
abbrev main_v91 : Ref sig .tc := ⟨.hbm, 138, rfl⟩
abbrev main_v92 : Ref sig .tc := ⟨.hbm, 139, rfl⟩
abbrev main_c_22 : Ref sig .tc := ⟨.hbm, 140, rfl⟩
abbrev main_v93 : Ref sig .tc := ⟨.hbm, 141, rfl⟩
abbrev main_v94 : Ref sig .tc := ⟨.hbm, 142, rfl⟩
abbrev main_c_23 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_c_24 : Ref sig .tc := ⟨.hbm, 149, rfl⟩
abbrev main_v100 : Ref sig .tc := ⟨.hbm, 150, rfl⟩
abbrev main_v101 : Ref sig .tc := ⟨.hbm, 151, rfl⟩
abbrev main_c_25 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_26 : Ref sig .tc := ⟨.hbm, 159, rfl⟩
abbrev main_v108 : Ref sig .tc := ⟨.hbm, 160, rfl⟩
abbrev main_v109 : Ref sig .tc := ⟨.hbm, 161, rfl⟩
abbrev main_c_27 : Ref sig .tc := ⟨.hbm, 162, rfl⟩
abbrev main_v110 : Ref sig .tc := ⟨.hbm, 163, rfl⟩
abbrev main_v111 : Ref sig .tc := ⟨.hbm, 164, rfl⟩
abbrev main_c_28 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_c_29 : Ref sig .tc := ⟨.hbm, 173, rfl⟩
abbrev main_v119 : Ref sig .tc := ⟨.hbm, 174, rfl⟩
abbrev main_v120 : Ref sig .tc := ⟨.hbm, 175, rfl⟩
abbrev main_c_30 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_call3_cst : Ref sig .tc := ⟨.hbm, 190, rfl⟩
abbrev main_call3_v0 : Ref sig .tc := ⟨.hbm, 191, rfl⟩
abbrev main_v134 : Ref sig .tc := ⟨.hbm, 192, rfl⟩
abbrev main_v135 : Ref sig .tc := ⟨.hbm, 193, rfl⟩
abbrev main_cst_31 : Ref sig .tc := ⟨.hbm, 194, rfl⟩
abbrev main_v136 : Ref sig .tc := ⟨.hbm, 195, rfl⟩
abbrev main_cst_32 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_cst_33 : Ref sig .tc := ⟨.hbm, 201, rfl⟩
abbrev main_v141 : Ref sig .tc := ⟨.hbm, 202, rfl⟩
abbrev main_cst_34 : Ref sig .tc := ⟨.hbm, 203, rfl⟩
abbrev main_v142 : Ref sig .tc := ⟨.hbm, 204, rfl⟩
abbrev main_v143 : Ref sig .tc := ⟨.hbm, 205, rfl⟩
abbrev main_cst_35 : Ref sig .tc := ⟨.hbm, 206, rfl⟩
abbrev main_v144 : Ref sig .tc := ⟨.hbm, 207, rfl⟩
abbrev main_cst_36 : Ref sig .tc := ⟨.hbm, 208, rfl⟩
abbrev main_v145 : Ref sig .tc := ⟨.hbm, 209, rfl⟩
abbrev main_c_37 : Ref sig .tc := ⟨.hbm, 210, rfl⟩
abbrev main_v146_0 : Ref sig .tc := ⟨.hbm, 211, rfl⟩
abbrev main_v146_1 : Ref sig .tc := ⟨.hbm, 212, rfl⟩
abbrev main_v146_2 : Ref sig .tc := ⟨.hbm, 213, rfl⟩
abbrev main_v146_3 : Ref sig .tc := ⟨.hbm, 214, rfl⟩
abbrev main_v146_4 : Ref sig .tc := ⟨.hbm, 215, rfl⟩
abbrev main_v146_5 : Ref sig .tc := ⟨.hbm, 216, rfl⟩
abbrev main_v146_6 : Ref sig .tc := ⟨.hbm, 217, rfl⟩
abbrev main_v146_7 : Ref sig .tc := ⟨.hbm, 218, rfl⟩
abbrev main_v146_8 : Ref sig .tc := ⟨.hbm, 219, rfl⟩
abbrev main_v146_9 : Ref sig .tc := ⟨.hbm, 220, rfl⟩
abbrev main_v146_10 : Ref sig .tc := ⟨.hbm, 221, rfl⟩
abbrev main_v146_11 : Ref sig .tc := ⟨.hbm, 222, rfl⟩
abbrev main_v146_12 : Ref sig .tc := ⟨.hbm, 223, rfl⟩
abbrev main_v146_13 : Ref sig .tc := ⟨.hbm, 224, rfl⟩
abbrev main_v146_14 : Ref sig .tc := ⟨.hbm, 225, rfl⟩
abbrev main_v146_15 : Ref sig .tc := ⟨.hbm, 226, rfl⟩
abbrev main_v146_16 : Ref sig .tc := ⟨.hbm, 227, rfl⟩
abbrev main_while0c_c_54 : Ref sig .tc := ⟨.hbm, 228, rfl⟩
abbrev main_while0c_v155 : Ref sig .tc := ⟨.hbm, 229, rfl⟩
abbrev main_while0b_call4_c : Ref sig .tc := ⟨.hbm, 230, rfl⟩
abbrev main_while0b_call4_c_0 : Ref sig .tc := ⟨.hbm, 231, rfl⟩
abbrev main_while0b_call4_v0 : Ref sig .tc := ⟨.hbm, 232, rfl⟩
abbrev main_while0b_v155 : Ref sig .tc := ⟨.hbm, 233, rfl⟩
abbrev main_while0b_call5_c : Ref sig .tc := ⟨.hbm, 234, rfl⟩
abbrev main_while0b_call5_c_0 : Ref sig .tc := ⟨.hbm, 235, rfl⟩
abbrev main_while0b_call5_v0 : Ref sig .tc := ⟨.hbm, 236, rfl⟩
abbrev main_while0b_v156 : Ref sig .tc := ⟨.hbm, 237, rfl⟩
abbrev main_while0b_v157 : Ref sig .tc := ⟨.hbm, 238, rfl⟩
abbrev main_while0b_v158 : Ref sig .tc := ⟨.hbm, 239, rfl⟩
abbrev main_while0b_v159 : Ref sig .tc := ⟨.hbm, 240, rfl⟩
abbrev main_while0b_v160 : Ref sig .tc := ⟨.hbm, 241, rfl⟩
abbrev main_while0b_v161 : Ref sig .tc := ⟨.hbm, 242, rfl⟩
abbrev main_while0b_v162 : Ref sig .tc := ⟨.hbm, 243, rfl⟩
abbrev main_while0b_v163 : Ref sig .tc := ⟨.hbm, 244, rfl⟩
abbrev main_while0b_v164 : Ref sig .tc := ⟨.hbm, 245, rfl⟩
abbrev main_while0b_v165 : Ref sig .tc := ⟨.hbm, 246, rfl⟩
abbrev main_while0b_v166 : Ref sig .tc := ⟨.hbm, 247, rfl⟩
abbrev main_while0b_v167 : Ref sig .tc := ⟨.hbm, 248, rfl⟩
abbrev main_while0b_v168 : Ref sig .tc := ⟨.hbm, 249, rfl⟩
abbrev main_while0b_v169 : Ref sig .tc := ⟨.hbm, 250, rfl⟩
abbrev main_while0b_v170 : Ref sig .tc := ⟨.hbm, 251, rfl⟩
abbrev main_while0b_v171 : Ref sig .tc := ⟨.hbm, 252, rfl⟩
abbrev main_while0b_v172 : Ref sig .tc := ⟨.hbm, 253, rfl⟩
abbrev main_while0b_v173 : Ref sig .tc := ⟨.hbm, 254, rfl⟩
abbrev main_while0b_cst_54 : Ref sig .tc := ⟨.hbm, 255, rfl⟩
abbrev main_while0b_v174 : Ref sig .tc := ⟨.hbm, 256, rfl⟩
abbrev main_while0b_v175 : Ref sig .tc := ⟨.hbm, 257, rfl⟩
abbrev main_while0b_cst_55 : Ref sig .tc := ⟨.hbm, 258, rfl⟩
abbrev main_while0b_v176 : Ref sig .tc := ⟨.hbm, 259, rfl⟩
abbrev main_while0b_v177 : Ref sig .tc := ⟨.hbm, 260, rfl⟩
abbrev main_while0b_v178 : Ref sig .tc := ⟨.hbm, 261, rfl⟩
abbrev main_while0b_v179 : Ref sig .tc := ⟨.hbm, 262, rfl⟩
abbrev main_while0b_cst_56 : Ref sig .tc := ⟨.hbm, 263, rfl⟩
abbrev main_while0b_v180 : Ref sig .tc := ⟨.hbm, 264, rfl⟩
abbrev main_while0b_v181 : Ref sig .tc := ⟨.hbm, 265, rfl⟩
abbrev main_while0b_cst_57 : Ref sig .tc := ⟨.hbm, 266, rfl⟩
abbrev main_while0b_v182 : Ref sig .tc := ⟨.hbm, 267, rfl⟩
abbrev main_while0b_v183 : Ref sig .tc := ⟨.hbm, 268, rfl⟩
abbrev main_while0b_v184 : Ref sig .tc := ⟨.hbm, 269, rfl⟩
abbrev main_while0b_v185 : Ref sig .tc := ⟨.hbm, 270, rfl⟩
abbrev main_while0b_v186 : Ref sig .tc := ⟨.hbm, 271, rfl⟩
abbrev main_while0b_cst_58 : Ref sig .tc := ⟨.hbm, 272, rfl⟩
abbrev main_while0b_v187 : Ref sig .tc := ⟨.hbm, 273, rfl⟩
abbrev main_while0b_v188 : Ref sig .tc := ⟨.hbm, 274, rfl⟩
abbrev main_while0b_cst_59 : Ref sig .tc := ⟨.hbm, 275, rfl⟩
abbrev main_while0b_v189 : Ref sig .tc := ⟨.hbm, 276, rfl⟩
abbrev main_while0b_v190 : Ref sig .tc := ⟨.hbm, 277, rfl⟩
abbrev main_while0b_v191 : Ref sig .tc := ⟨.hbm, 278, rfl⟩
abbrev main_while0b_v192 : Ref sig .tc := ⟨.hbm, 279, rfl⟩
abbrev main_while0b_v193 : Ref sig .tc := ⟨.hbm, 280, rfl⟩
abbrev main_while0b_v194 : Ref sig .tc := ⟨.hbm, 281, rfl⟩
abbrev main_while0b_v195 : Ref sig .tc := ⟨.hbm, 282, rfl⟩
abbrev main_while0b_v196 : Ref sig .tc := ⟨.hbm, 283, rfl⟩
abbrev main_while0b_v197 : Ref sig .tc := ⟨.hbm, 284, rfl⟩
abbrev main_while0b_v198 : Ref sig .tc := ⟨.hbm, 285, rfl⟩
abbrev main_while0b_v199 : Ref sig .tc := ⟨.hbm, 286, rfl⟩
abbrev main_while0b_v200 : Ref sig .tc := ⟨.hbm, 287, rfl⟩
abbrev main_while0b_v201 : Ref sig .tc := ⟨.hbm, 288, rfl⟩
abbrev main_while0b_v202 : Ref sig .tc := ⟨.hbm, 289, rfl⟩
abbrev main_while0b_v203 : Ref sig .tc := ⟨.hbm, 290, rfl⟩
abbrev main_while0b_v204 : Ref sig .tc := ⟨.hbm, 291, rfl⟩
abbrev main_while0b_v205 : Ref sig .tc := ⟨.hbm, 292, rfl⟩
abbrev main_while0b_v206 : Ref sig .tc := ⟨.hbm, 293, rfl⟩
abbrev main_while0b_v207 : Ref sig .tc := ⟨.hbm, 294, rfl⟩
abbrev main_while0b_v208 : Ref sig .tc := ⟨.hbm, 295, rfl⟩
abbrev main_while0b_v209 : Ref sig .tc := ⟨.hbm, 296, rfl⟩
abbrev main_while0b_v210 : Ref sig .tc := ⟨.hbm, 297, rfl⟩
abbrev main_while0b_v211 : Ref sig .tc := ⟨.hbm, 298, rfl⟩
abbrev main_while0b_v212 : Ref sig .tc := ⟨.hbm, 299, rfl⟩
abbrev main_while0b_cst_60 : Ref sig .tc := ⟨.hbm, 300, rfl⟩
abbrev main_while0b_v213 : Ref sig .tc := ⟨.hbm, 301, rfl⟩
abbrev main_while0b_v214 : Ref sig .tc := ⟨.hbm, 302, rfl⟩
abbrev main_while0b_cst_61 : Ref sig .tc := ⟨.hbm, 303, rfl⟩
abbrev main_while0b_v215 : Ref sig .tc := ⟨.hbm, 304, rfl⟩
abbrev main_while0b_v216 : Ref sig .tc := ⟨.hbm, 305, rfl⟩
abbrev main_while0b_v217 : Ref sig .tc := ⟨.hbm, 306, rfl⟩
abbrev main_while0b_v218 : Ref sig .tc := ⟨.hbm, 307, rfl⟩
abbrev main_while0b_cst_62 : Ref sig .tc := ⟨.hbm, 308, rfl⟩
abbrev main_while0b_v219 : Ref sig .tc := ⟨.hbm, 309, rfl⟩
abbrev main_while0b_v220 : Ref sig .tc := ⟨.hbm, 310, rfl⟩
abbrev main_while0b_cst_63 : Ref sig .tc := ⟨.hbm, 311, rfl⟩
abbrev main_while0b_v221 : Ref sig .tc := ⟨.hbm, 312, rfl⟩
abbrev main_while0b_v222 : Ref sig .tc := ⟨.hbm, 313, rfl⟩
abbrev main_while0b_v223 : Ref sig .tc := ⟨.hbm, 314, rfl⟩
abbrev main_while0b_v224 : Ref sig .tc := ⟨.hbm, 315, rfl⟩
abbrev main_while0b_v225 : Ref sig .tc := ⟨.hbm, 316, rfl⟩
abbrev main_while0b_cst_64 : Ref sig .tc := ⟨.hbm, 317, rfl⟩
abbrev main_while0b_v226 : Ref sig .tc := ⟨.hbm, 318, rfl⟩
abbrev main_while0b_v227 : Ref sig .tc := ⟨.hbm, 319, rfl⟩
abbrev main_while0b_cst_65 : Ref sig .tc := ⟨.hbm, 320, rfl⟩
abbrev main_while0b_v228 : Ref sig .tc := ⟨.hbm, 321, rfl⟩
abbrev main_while0b_v229 : Ref sig .tc := ⟨.hbm, 322, rfl⟩
abbrev main_while0b_v230 : Ref sig .tc := ⟨.hbm, 323, rfl⟩
abbrev main_while0b_v231 : Ref sig .tc := ⟨.hbm, 324, rfl⟩
abbrev main_while0b_v232 : Ref sig .tc := ⟨.hbm, 325, rfl⟩
abbrev main_while0b_v233 : Ref sig .tc := ⟨.hbm, 326, rfl⟩
abbrev main_while0b_v234 : Ref sig .tc := ⟨.hbm, 327, rfl⟩
abbrev main_while0b_call6_v0 : Ref sig .tc := ⟨.hbm, 328, rfl⟩
abbrev main_while0b_call6_c : Ref sig .tc := ⟨.hbm, 329, rfl⟩
abbrev main_while0b_call6_c_0 : Ref sig .tc := ⟨.hbm, 330, rfl⟩
abbrev main_while0b_v235 : Ref sig .tc := ⟨.hbm, 331, rfl⟩
abbrev main_while0b_call7_v0 : Ref sig .tc := ⟨.hbm, 332, rfl⟩
abbrev main_while0b_call7_c : Ref sig .tc := ⟨.hbm, 333, rfl⟩
abbrev main_while0b_call7_c_0 : Ref sig .tc := ⟨.hbm, 334, rfl⟩
abbrev main_while0b_v236 : Ref sig .tc := ⟨.hbm, 335, rfl⟩
abbrev main_while0b_c_66 : Ref sig .tc := ⟨.hbm, 336, rfl⟩
abbrev main_while0b_v237 : Ref sig .tc := ⟨.hbm, 337, rfl⟩
abbrev main_v147 : Ref sig .tc := ⟨.hbm, 338, rfl⟩
abbrev main_v148 : Ref sig .tc := ⟨.hbm, 339, rfl⟩
abbrev main_v149 : Ref sig .tc := ⟨.hbm, 340, rfl⟩
abbrev main_v150 : Ref sig .tc := ⟨.hbm, 341, rfl⟩
abbrev main_v151 : Ref sig .tc := ⟨.hbm, 342, rfl⟩
abbrev main_v152 : Ref sig .tc := ⟨.hbm, 343, rfl⟩
abbrev main_v153 : Ref sig .tc := ⟨.hbm, 344, rfl⟩
abbrev main_v154 : Ref sig .tc := ⟨.hbm, 345, rfl⟩

abbrev nD : Nat := 1
abbrev τ : Topo := Topo.v7x

variable {F : FTy → Type} [FloatOps F]

abbrev main_while0_count : Scf.Loop 32 := ⟨0#32, 128#32, 1#32⟩
-- ==== Proof.Frames.lean ====
/-
  The frames of the three programs: each one terminates, leaves its arguments unchanged and its semaphore counters at zero.
  The two kernels' are the generated ones; the reference's is read off its run. The one named constant's statement is here too.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

/-- The kernel's frame, at the bits. -/
theorem frame_kernel : Cert.quiescent_Kernel := fun m ρ _ => Cert.Kernel.Gen.frame m ρ

/-- The frame of the kernel over the extended reals. -/
theorem frame_kernelIdeal : Cert.quiescent_KernelIdeal := fun m ρ _ => Cert.KernelIdeal.Gen.frame m ρ

/-- The frame of the reference over the extended reals: its run leaves every argument as it was, and the program has no
    semaphore at all. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's literal for one over the number of agents is that real's single precision constant, and over the
    extended reals the name denotes the real itself. -/
theorem preserves : Cert.preserves_Kernel_KernelIdeal :=
  IdealRules.named_const.statement Cert.KernelIdeal.κ "inv_agents" .f32 0x3D3A2E8C#32 ((22⁻¹ : ℝ) : EReal) rfl

end Cert.Proof

end
-- ==== Proof.BlockDiag.lean ====
/- The block-diagonal array of the kernel's first product: twenty-two copies of the embedding's weights. -/
module

public import Idealize.ShloMosaic.Lib.Claim
public import Idealize.ShloMosaic.Lib.StableHlo.ReadAt
public import Idealize.ShloMosaic.Lib.StableHlo.RunRead
public import Idealize.ShloMosaic.Lib.Pointwise
public import Idealize.ShloMosaic.Lib.Pipeline.Value
public import Idealize.ShloMosaic.Lib.Routing.OpsSet
public import Idealize.ShloMosaic.Lib.Routing.OpsPair
public import proofs.«01_k».proof.Proof.Gen.KernelIdeal.Value

@[expose] public section

noncomputable section
set_option maxRecDepth 16384

namespace Cert.KernelIdeal.Value
open Idealize.ShloMosaic Idealize.ShloMosaic.TcCoe Idealize.ShloMosaic.Pipeline
open Idealize.SL Idealize.SL.Sem
open Cert.KernelIdeal.Gen

/-- Row `8 k + f` of a concatenation of pieces of eight rows is row `f` of piece `k`. -/
theorem concat_rows {N : Nat} (xs : List ((s : Shape) × (s.Idx → EReal))) (h : Shape.Concatenates (xs.map (·.1)) (⟨2, ![N, 704]⟩ : Shape) 0)
    (k : Nat) (x : S8x704.Idx → EReal) (f : Fin 8) (j : Fin 704) (hN : 8 * k + f.val < N)
    (hk : k < xs.length) (hx : xs[k] = ⟨S8x704, x⟩)
    (hpre : (((xs.take k).map (·.1)).map fun s => if h : s.rank = 2 then s.size ((0 : Fin 2).cast h.symm) else 0).sum = 8 * k) :
    concatenate (⟨2, ![N, 704]⟩ : Shape) 0 xs h (ix2 ⟨8 * k + f, hN⟩ j) = x (ix2 f j) :=
  concatenate_apply_piece 0 xs h _ k hk S8x704 x hx rfl (8 * k) hpre (ix2 f j)
    (Fin.forall_fin_two.mpr ⟨fun h => absurd rfl h, fun _ => rfl⟩) rfl

/-- Column `32 b + e` lies in the window of the thirty-two columns that begin at `32 n` when `n = b`, and is column `e` of it. -/
theorem window_eq {s n : Nat} (hs : s = 32 * n) (b : Fin 22) (e : Fin 32) (x : Fin 32 → EReal) :
    (if h : s ≤ 32 * b.val + e.val ∧ 32 * b.val + e.val - s < 32 then x ⟨32 * b.val + e.val - s, h.2⟩ else 0)
      = if n = b.val then x e else 0 := by
  subst hs
  by_cases h : n = b.val
  · rw [if_pos h, dif_pos (by omega)]
    exact congrArg x (Fin.ext (by simp only; omega))
  · rw [if_neg h, dif_neg (by omega)]

/-- The window of the first thirty-two columns. -/
theorem window_zero (b : Fin 22) (e : Fin 32) (x : Fin 32 → EReal) :
    (if h : 32 * b.val + e.val < 32 then x ⟨32 * b.val + e.val, h⟩ else 0) = if 0 = b.val then x e else 0 := by
  by_cases h : 0 = b.val
  · rw [if_pos h, dif_pos (by omega)]
    exact congrArg x (Fin.ext (by simp only; omega))
  · rw [if_neg h, dif_neg (by omega)]

set_option maxHeartbeats 16000000 in
/-- The first sixteen blocks of rows of the block-diagonal array. -/
theorem upper_at (X : Valuation τ sig (Elt Ideal)) (a : Fin 16) (f : Fin 8) (b : Fin 22) (e : Fin 32) :
    StableHlo.upto hostOps0_1 X 46 (Proc.tc.devRef main_call0_v44) (ix2 (⟨8 * a + f, by omega⟩ : Fin 128) (⟨32 * b + e, by omega⟩ : Fin 704))
      = if a.val = b.val then (show EReal from X (Proc.tc.devRef main_arg3) (ix2 f e)) else (0 : EReal) := by
  simp only [hostOps0_1]
  after_reads_simp
  simp -implicitDefEqProofs only [StableHlo.TRef.toBuf, StableHlo.TRef.ofBuf, cast_cast, cast_eq]
  fin_cases a <;> dsimp only
  all_goals
    refine Eq.trans (concat_rows _ _ _ _ f _ _ (by simp) (by rfl) (by rfl)) ?_
    dsimp only [Matrix.cons_val]
    after_reads_at
    refine Eq.trans (congrFun (cast_eq rfl _) _) ?_
    pointwise
    first
      | exact window_zero b e fun e => X (Proc.tc.devRef main_arg3) (ix2 f e)
      | exact window_eq (by rfl) b e fun e => X (Proc.tc.devRef main_arg3) (ix2 f e)

set_option maxHeartbeats 16000000 in
/-- The last six blocks of rows of the block-diagonal array. -/
theorem lower_at (X : Valuation τ sig (Elt Ideal)) (a : Fin 6) (f : Fin 8) (b : Fin 22) (e : Fin 32) :
    StableHlo.upto hostOps0_1 X 46 (Proc.tc.devRef main_call0_v45) (ix2 (⟨8 * a + f, by omega⟩ : Fin 48) (⟨32 * b + e, by omega⟩ : Fin 704))
      = if a.val + 16 = b.val then (show EReal from X (Proc.tc.devRef main_arg3) (ix2 f e)) else (0 : EReal) := by
  simp only [hostOps0_1]
  after_reads_simp
  simp -implicitDefEqProofs only [StableHlo.TRef.toBuf, StableHlo.TRef.ofBuf, cast_cast, cast_eq]
  fin_cases a <;> dsimp only
  all_goals
    refine Eq.trans (concat_rows _ _ _ _ f _ _ (by simp) (by rfl) (by rfl)) ?_
    dsimp only [Matrix.cons_val]
    after_reads_at
    refine Eq.trans (congrFun (cast_eq rfl _) _) ?_
    pointwise
    first
      | exact window_zero b e fun e => X (Proc.tc.devRef main_arg3) (ix2 f e)
      | exact window_eq (by rfl) b e fun e => X (Proc.tc.devRef main_arg3) (ix2 f e)

/-- Row `8 a + f`, column `32 b + e` of the block-diagonal array. -/
theorem blockdiag_at (X : Valuation τ sig (Elt Ideal)) (a : Fin 22) (f : Fin 8) (b : Fin 22) (e : Fin 32) :
    StableHlo.after hostOps0_1 X (Proc.tc.devRef main_v3) (ix2 (⟨8 * a + f, by omega⟩ : Fin 176) (⟨32 * b + e, by omega⟩ : Fin 704))
      = if a.val = b.val then (show EReal from X (Proc.tc.devRef main_arg3) (ix2 f e)) else (0 : EReal) := by
  have hu (h : 8 * a.val + f.val < 128) := upper_at X ⟨a, by omega⟩ f b e
  have hl (h : ¬ 8 * a.val + f.val < 128) := lower_at X ⟨a.val - 16, by omega⟩ f b e
  simp only [hostOps0_1] at hu hl ⊢
  after_reads_at
  split
  · rename_i h
    exact hu h
  · rename_i h
    have h' := hl h
    rw [show (a.val - 16 + 16) = a.val by omega] at h'
    rw [← h']
    congr 3
    omega

end Cert.KernelIdeal.Value
-- ==== Proof.Entry.lean ====
/- What the kernel's windows hold when the launch begins, after the host operations before it. -/
module

public import Idealize.ShloMosaic.Lib.StableHlo.ReadAt
public import Idealize.ShloMosaic.Lib.StableHlo.RunRead
public import Idealize.ShloMosaic.Lib.Pointwise
public import Idealize.ShloMosaic.Lib.Routing.OpsSet
public import Idealize.ShloMosaic.Lib.Routing.OpsPair
public import proofs.«01_k».proof.Proof.Gen.KernelIdeal.Value
public import proofs.«01_k».proof.Proof.BlockDiag

@[expose] public section

noncomputable section
set_option maxRecDepth 16384

namespace Cert.KernelIdeal.Value
open Idealize.ShloMosaic Idealize.ShloMosaic.TcCoe Idealize.ShloMosaic.Pipeline
open Idealize.SL Idealize.SL.Sem
open Cert.KernelIdeal.Gen

/-- The embedding's block, written at the origin of the padded weights, lands where it was. -/
theorem lands_w (idx : IVec S1 32) (h : ∀ q, idx q = 0#32) (i : Fin 176) (j : Fin 704) (k : Fin 176) (l : Fin 768) :
    scatter_S176x768_S1_S176x704_01_n_1_0.resultIdx? (ix2 i j) idx = some (ix2 k l) ↔ i.val = k.val ∧ j.val = l.val := by
  rw [Routing.resultIdx?_eq_some]
  refine Fin.forall_fin_two.trans ?_
  have hw0 : scatter_S176x768_S1_S176x704_01_n_1_0.window (ix2 i j) 0 = i.val := rfl
  have hw1 : scatter_S176x768_S1_S176x704_01_n_1_0.window (ix2 i j) 1 = j.val := rfl
  have hs0 : scatter_S176x768_S1_S176x704_01_n_1_0.start (ix2 i j) idx 0 = 0 := rfl
  have hs1 : scatter_S176x768_S1_S176x704_01_n_1_0.start (ix2 i j) idx 1 = 0 := by
    unfold ScatterDims.start
    rw [dif_pos (by decide), h]; rfl
  rw [hw0, hw1, hs0, hs1]
  simp

/-- The tiled biases, written at the origin of the padded row, land where they were. -/
theorem lands_b (idx : IVec S2 32) (h : ∀ q, idx q = 0#32) (j : Fin 704) (l : Fin 768) :
    scatter_S1x768_S2_S704_0_0_01_0.resultIdx? (ix1 j) idx = some (ix2 0 l) ↔ j.val = l.val := by
  rw [Routing.resultIdx?_eq_some]
  refine Fin.forall_fin_two.trans ?_
  have hw0 : scatter_S1x768_S2_S704_0_0_01_0.window (ix1 j) 0 = 0 := rfl
  have hw1 : scatter_S1x768_S2_S704_0_0_01_0.window (ix1 j) 1 = j.val := rfl
  have hs : ∀ a, scatter_S1x768_S2_S704_0_0_01_0.start (ix1 j) idx a = 0 := by
    intro a
    unfold ScatterDims.start
    split
    · rw [h]; rfl
    · rfl
  rw [hw0, hw1, hs, hs]
  simp

variable (m : (ℓ : Loc nD τ sig) → Buf (Elt Ideal) ℓ)

/-- The host operations before the region, the block-diagonal ones apart from those before and after them. -/
theorem V_eq (c : Dev nD) (r : Ref sig .tc) : V m c r
    = StableHlo.after hostOps0_2 (StableHlo.after hostOps0_1 (StableHlo.after hostOps0 (fun b => m (c, b)))) (Proc.tc.devRef r) := by
  simp only [V, List.flatten_cons, List.flatten_nil, List.append_nil, StableHlo.after_append]

/-- The kernel's first window: row `32 t + b` holds the features of frame `t` of batch `b`, agent by agent. -/
theorem feat_at (c : Dev nD) (t : Fin 128) (b : Fin 32) (a : Fin 22) (f : Fin 8) :
    V m c main_v1 (ix2 (⟨32 * t + b, by omega⟩ : Fin 4096) (⟨8 * a + f, by omega⟩ : Fin 176)) = m ((c : Thread nD τ).loc main_arg0) (ix4 b t a f) := by
  rw [V_eq]
  simp only [hostOps0, hostOps0_1, hostOps0_2]
  after_reads_simp
  pointwise

/-- The large weights: the block of agents `a`, `b` is the embedding's weights when `a = b`, and zero otherwise. -/
theorem wbig_at (c : Dev nD) (a : Fin 22) (f : Fin 8) (b : Fin 22) (e : Fin 32) :
    V m c main_v5 (ix2 (⟨8 * a + f, by omega⟩ : Fin 176) (⟨32 * b + e, by omega⟩ : Fin 768))
      = if a.val = b.val then (show EReal from m ((c : Thread nD τ).loc main_arg3) (ix2 f e)) else (0 : EReal) := by
  rw [V_eq]
  generalize hX : StableHlo.after hostOps0 (fun b => m (c, b)) = X
  generalize hY : StableHlo.after hostOps0_1 X = Y
  simp only [hostOps0_2]
  after_reads_simp
  refine (Routing.scatter_set_hit _ _ _ _ _ (Y (Proc.tc.devRef main_v3) (ix2 (⟨8 * a + f, by omega⟩ : Fin 176) (⟨32 * b + e, by omega⟩ : Fin 704))) ?_ (ix2 (⟨8 * a + f, by omega⟩ : Fin 176) (⟨32 * b + e, by omega⟩ : Fin 704)) ?_).trans ?_
  · intro k hk
    obtain ⟨i, j, rfl⟩ : ∃ i j, k = ix2 i j := ⟨_, _, eq_ix2 k⟩
    replace hk := (lands_w _ (fun _ => rfl) _ _ _ _).1 hk
    rw [show i = _ from Fin.ext hk.1, show j = ⟨32 * b + e, by omega⟩ from Fin.ext hk.2]
  · exact (lands_w _ (fun _ => rfl) _ _ _ _).2 ⟨rfl, rfl⟩
  · subst hY
    rw [blockdiag_at]
    subst hX
    simp only [hostOps0]
    after_reads_simp

/-- The large weights are zero in the padding agents' lanes. -/
theorem wbig_pad (c : Dev nD) (k : Fin 176) (j : Fin 768) (hj : 704 ≤ j.val) : V m c main_v5 (ix2 k j) = (0 : EReal) := by
  rw [V_eq]
  generalize hX : StableHlo.after hostOps0 (fun b => m (c, b)) = X
  simp only [hostOps0_2, hostOps0_1]
  after_reads_simp
  refine (Routing.scatter_set_miss _ _ _ _ _ ?_).trans ?_
  · intro k hk
    obtain ⟨i, l, rfl⟩ : ∃ i l, k = ix2 i l := ⟨_, _, eq_ix2 k⟩
    replace hk := (lands_w _ (fun _ => rfl) _ _ _ _).1 hk
    omega
  · subst hX
    simp only [hostOps0]
    after_reads_simp
    pointwise

/-- Two zeros side by side are zero everywhere. -/
theorem zeros_at (x y : S1.Idx → BitVec 32) (hx : ∀ q, x q = 0#32) (hy : ∀ q, y q = 0#32) (q : S2.Idx) :
    concatenate S2 0 [⟨S1, x⟩, ⟨S1, y⟩] concatenates_S1_S1_S2_d0 q = 0#32 := by
  obtain ⟨i, rfl⟩ : ∃ i, q = ix1 i := ⟨_, eq_ix1 q⟩
  pointwise
  split
  · exact hx _
  · exact hy _

/-- The large biases: every agent's lanes hold the embedding's biases. -/
theorem bbig_at (c : Dev nD) (b : Fin 22) (e : Fin 32) :
    V m c main_v13 (ix2 0 (⟨32 * b + e, by omega⟩ : Fin 768)) = m ((c : Thread nD τ).loc main_arg4) (ix1 e) := by
  rw [V_eq]
  generalize hY : StableHlo.after hostOps0_1 (StableHlo.after hostOps0 (fun b => m (c, b))) = Y
  simp only [hostOps0_2]
  after_reads_simp
  refine (Routing.scatter_set_hit _ _ _ _ _ (m ((c : Thread nD τ).loc main_arg4) (ix1 e)) ?_ (ix1 (⟨32 * b + e, by omega⟩ : Fin 704)) ?_).trans ?_
  · intro k hk
    obtain ⟨i, rfl⟩ : ∃ i, k = ix1 i := ⟨_, eq_ix1 k⟩
    replace hk := (lands_b _ (zeros_at _ _ (fun q => by after_reads_simp; rfl) (fun q => by after_reads_simp; rfl)) _ _).1 hk
    rw [show i = (⟨32 * b + e, by omega⟩ : Fin 704) from Fin.ext hk]
    subst hY
    simp only [hostOps0_1, hostOps0]
    after_reads_at
  · exact (lands_b _ (zeros_at _ _ (fun q => by after_reads_simp; rfl) (fun q => by after_reads_simp; rfl)) _ _).2 rfl
  · rfl

/-- The large biases are zero in the padding agents' lanes. -/
theorem bbig_pad (c : Dev nD) (j : Fin 768) (hj : 704 ≤ j.val) : V m c main_v13 (ix2 0 j) = (0 : EReal) := by
  rw [V_eq]
  generalize hY : StableHlo.after hostOps0_1 (StableHlo.after hostOps0 (fun b => m (c, b))) = Y
  simp only [hostOps0_2]
  after_reads_simp
  refine (Routing.scatter_set_miss _ _ _ _ _ ?_).trans ?_
  · intro k hk
    obtain ⟨i, rfl⟩ : ∃ i, k = ix1 i := ⟨_, eq_ix1 k⟩
    replace hk := (lands_b _ (zeros_at _ _ (fun q => by after_reads_simp; rfl) (fun q => by after_reads_simp; rfl)) _ _).1 hk
    omega
  · pointwise

/-- The forward gates' bias is the sum of the two biases. -/
theorem bf_at (c : Dev nD) (n : Fin 512) : V m c main_v15 (ix2 0 n) = (show EReal from m ((c : Thread nD τ).loc main_arg11) (ix1 n)) + (show EReal from m ((c : Thread nD τ).loc main_arg12) (ix1 n)) := by
  rw [V_eq]
  simp only [hostOps0_2, hostOps0_1, hostOps0]
  after_reads_at

/-- The reverse gates' bias is the sum of the two biases. -/
theorem br_at (c : Dev nD) (n : Fin 512) : V m c main_v17 (ix2 0 n) = (show EReal from m ((c : Thread nD τ).loc main_arg15) (ix1 n)) + (show EReal from m ((c : Thread nD τ).loc main_arg16) (ix1 n)) := by
  rw [V_eq]
  simp only [hostOps0_2, hostOps0_1, hostOps0]
  after_reads_at

/-- The first layer's biases as a row. -/
theorem b1_at (c : Dev nD) (n : Fin 32) : V m c main_v18 (ix2 0 n) = m ((c : Thread nD τ).loc main_arg6) (ix1 n) := by
  rw [V_eq]
  simp only [hostOps0_2, hostOps0_1, hostOps0]
  after_reads_at

/-- The second layer's biases as a row. -/
theorem b2_at (c : Dev nD) (n : Fin 32) : V m c main_v19 (ix2 0 n) = m ((c : Thread nD τ).loc main_arg8) (ix1 n) := by
  rw [V_eq]
  simp only [hostOps0_2, hostOps0_1, hostOps0]
  after_reads_at

/-- The forward input weights transposed. -/
theorem wihf_at (c : Dev nD) (d : Fin 32) (n : Fin 512) : V m c main_v20 (ix2 d n) = m ((c : Thread nD τ).loc main_arg9) (ix2 n d) := by
  rw [V_eq]
  simp only [hostOps0_2, hostOps0_1, hostOps0]
  after_reads_at

/-- The forward recurrent weights transposed. -/
theorem whhf_at (c : Dev nD) (d : Fin 128) (n : Fin 512) : V m c main_v21 (ix2 d n) = m ((c : Thread nD τ).loc main_arg10) (ix2 n d) := by
  rw [V_eq]
  simp only [hostOps0_2, hostOps0_1, hostOps0]
  after_reads_at

/-- The reverse input weights transposed. -/
theorem wihr_at (c : Dev nD) (d : Fin 32) (n : Fin 512) : V m c main_v22 (ix2 d n) = m ((c : Thread nD τ).loc main_arg13) (ix2 n d) := by
  rw [V_eq]
  simp only [hostOps0_2, hostOps0_1, hostOps0]
  after_reads_at

/-- The classifier's bias as a one by one array. -/
theorem bcls_at (c : Dev nD) : V m c main_v23 (ix2 0 0) = m ((c : Thread nD τ).loc main_arg18) (ix1 0) := by
  rw [V_eq]
  simp only [hostOps0_2, hostOps0_1, hostOps0]
  after_reads_at

end Cert.KernelIdeal.Value

end
-- ==== Proof.Windows.lean ====
/- The launch has one point, and the block of every input window there is its whole array. -/
module

public import Idealize.ShloMosaic.Lib.Pipeline.ValueKit
public import proofs.«01_k».proof.Proof.Gen.KernelIdeal.Value

@[expose] public section

noncomputable section
set_option maxRecDepth 16384

namespace Cert.KernelIdeal.Value
open Idealize.ShloMosaic Idealize.ShloMosaic.TcCoe Idealize.ShloMosaic.Pipeline
open Idealize.SL Idealize.SL.Sem
open Cert.KernelIdeal.Gen

/-- Reading the one block of window 0 reads the whole array. -/
theorem read_0 (c : Dev nD) (X : Buf (Elt Ideal) ((c : Thread nD τ).loc main_v1)) :
    ((cfg0.win 0).blk t0_0).view.read (Elt Ideal) X = X := by
  have h : win0_0.index t0_0 = ![0, 0] := by decide +kernel
  blk_ext! [h]

/-- Reading the one block of window 1 reads the whole array. -/
theorem read_1 (c : Dev nD) (X : Buf (Elt Ideal) ((c : Thread nD τ).loc main_v5)) :
    ((cfg0.win 1).blk t0_0).view.read (Elt Ideal) X = X := by
  have h : win0_1.index t0_0 = ![0, 0] := by decide +kernel
  blk_ext! [h]

/-- Reading the one block of window 2 reads the whole array. -/
theorem read_2 (c : Dev nD) (X : Buf (Elt Ideal) ((c : Thread nD τ).loc main_v13)) :
    ((cfg0.win 2).blk t0_0).view.read (Elt Ideal) X = X := by
  have h : win0_2.index t0_0 = ![0, 0] := by decide +kernel
  blk_ext! [h]

/-- Reading the one block of window 3 reads the whole array. -/
theorem read_3 (c : Dev nD) (X : Buf (Elt Ideal) ((c : Thread nD τ).loc main_arg5)) :
    ((cfg0.win 3).blk t0_0).view.read (Elt Ideal) X = X := by
  have h : win0_3.index t0_0 = ![0, 0] := by decide +kernel
  blk_ext! [h]

/-- Reading the one block of window 4 reads the whole array. -/
theorem read_4 (c : Dev nD) (X : Buf (Elt Ideal) ((c : Thread nD τ).loc main_v18)) :
    ((cfg0.win 4).blk t0_0).view.read (Elt Ideal) X = X := by
  have h : win0_4.index t0_0 = ![0, 0] := by decide +kernel
  blk_ext! [h]

/-- Reading the one block of window 5 reads the whole array. -/
theorem read_5 (c : Dev nD) (X : Buf (Elt Ideal) ((c : Thread nD τ).loc main_arg7)) :
    ((cfg0.win 5).blk t0_0).view.read (Elt Ideal) X = X := by
  have h : win0_5.index t0_0 = ![0, 0] := by decide +kernel
  blk_ext! [h]

/-- Reading the one block of window 6 reads the whole array. -/
theorem read_6 (c : Dev nD) (X : Buf (Elt Ideal) ((c : Thread nD τ).loc main_v19)) :
    ((cfg0.win 6).blk t0_0).view.read (Elt Ideal) X = X := by
  have h : win0_6.index t0_0 = ![0, 0] := by decide +kernel
  blk_ext! [h]

/-- Reading the one block of window 7 reads the whole array. -/
theorem read_7 (c : Dev nD) (X : Buf (Elt Ideal) ((c : Thread nD τ).loc main_v20)) :
    ((cfg0.win 7).blk t0_0).view.read (Elt Ideal) X = X := by
  have h : win0_7.index t0_0 = ![0, 0] := by decide +kernel
  blk_ext! [h]

/-- Reading the one block of window 8 reads the whole array. -/
theorem read_8 (c : Dev nD) (X : Buf (Elt Ideal) ((c : Thread nD τ).loc main_v21)) :
    ((cfg0.win 8).blk t0_0).view.read (Elt Ideal) X = X := by
  have h : win0_8.index t0_0 = ![0, 0] := by decide +kernel
  blk_ext! [h]

/-- Reading the one block of window 9 reads the whole array. -/
theorem read_9 (c : Dev nD) (X : Buf (Elt Ideal) ((c : Thread nD τ).loc main_v15)) :
    ((cfg0.win 9).blk t0_0).view.read (Elt Ideal) X = X := by
  have h : win0_9.index t0_0 = ![0, 0] := by decide +kernel
  blk_ext! [h]

/-- Reading the one block of window 10 reads the whole array. -/
theorem read_10 (c : Dev nD) (X : Buf (Elt Ideal) ((c : Thread nD τ).loc main_v22)) :
    ((cfg0.win 10).blk t0_0).view.read (Elt Ideal) X = X := by
  have h : win0_10.index t0_0 = ![0, 0] := by decide +kernel
  blk_ext! [h]

/-- Reading the one block of window 11 reads the whole array. -/
theorem read_11 (c : Dev nD) (X : Buf (Elt Ideal) ((c : Thread nD τ).loc main_v17)) :
    ((cfg0.win 11).blk t0_0).view.read (Elt Ideal) X = X := by
  have h : win0_11.index t0_0 = ![0, 0] := by decide +kernel
  blk_ext! [h]

/-- Reading the one block of window 12 reads the whole array. -/
theorem read_12 (c : Dev nD) (X : Buf (Elt Ideal) ((c : Thread nD τ).loc main_arg17)) :
    ((cfg0.win 12).blk t0_0).view.read (Elt Ideal) X = X := by
  have h : win0_12.index t0_0 = ![0, 0] := by decide +kernel
  blk_ext! [h]

/-- Reading the one block of window 13 reads the whole array. -/
theorem read_13 (c : Dev nD) (X : Buf (Elt Ideal) ((c : Thread nD τ).loc main_v23)) :
    ((cfg0.win 13).blk t0_0).view.read (Elt Ideal) X = X := by
  have h : win0_13.index t0_0 = ![0, 0] := by decide +kernel
  blk_ext! [h]

variable (m : (ℓ : Loc nD τ sig) → Buf (Elt Ideal) ℓ)

/-- The block of window 0 is its whole array. -/
theorem iblk_0 (c : Dev nD) : iblk m c 0 t0_0 = V m c main_v1 :=
  read_0 c (V m c main_v1)

/-- The block of window 1 is its whole array. -/
theorem iblk_1 (c : Dev nD) : iblk m c 1 t0_0 = V m c main_v5 :=
  read_1 c (V m c main_v5)

/-- The block of window 2 is its whole array. -/
theorem iblk_2 (c : Dev nD) : iblk m c 2 t0_0 = V m c main_v13 :=
  read_2 c (V m c main_v13)

/-- The block of window 3 is its whole array. -/
theorem iblk_3 (c : Dev nD) : iblk m c 3 t0_0 = V m c main_arg5 :=
  read_3 c (V m c main_arg5)

/-- The block of window 4 is its whole array. -/
theorem iblk_4 (c : Dev nD) : iblk m c 4 t0_0 = V m c main_v18 :=
  read_4 c (V m c main_v18)

/-- The block of window 5 is its whole array. -/
theorem iblk_5 (c : Dev nD) : iblk m c 5 t0_0 = V m c main_arg7 :=
  read_5 c (V m c main_arg7)

/-- The block of window 6 is its whole array. -/
theorem iblk_6 (c : Dev nD) : iblk m c 6 t0_0 = V m c main_v19 :=
  read_6 c (V m c main_v19)

/-- The block of window 7 is its whole array. -/
theorem iblk_7 (c : Dev nD) : iblk m c 7 t0_0 = V m c main_v20 :=
  read_7 c (V m c main_v20)

/-- The block of window 8 is its whole array. -/
theorem iblk_8 (c : Dev nD) : iblk m c 8 t0_0 = V m c main_v21 :=
  read_8 c (V m c main_v21)

/-- The block of window 9 is its whole array. -/
theorem iblk_9 (c : Dev nD) : iblk m c 9 t0_0 = V m c main_v15 :=
  read_9 c (V m c main_v15)

/-- The block of window 10 is its whole array. -/
theorem iblk_10 (c : Dev nD) : iblk m c 10 t0_0 = V m c main_v22 :=
  read_10 c (V m c main_v22)

/-- The block of window 11 is its whole array. -/
theorem iblk_11 (c : Dev nD) : iblk m c 11 t0_0 = V m c main_v17 :=
  read_11 c (V m c main_v17)

/-- The block of window 12 is its whole array. -/
theorem iblk_12 (c : Dev nD) : iblk m c 12 t0_0 = V m c main_arg17 :=
  read_12 c (V m c main_arg17)

/-- The block of window 13 is its whole array. -/
theorem iblk_13 (c : Dev nD) : iblk m c 13 t0_0 = V m c main_v23 :=
  read_13 c (V m c main_v23)

/-- What the body loads from the staging buffer of window 0. -/
theorem stage_0 (c : Dev nD) : (View.whole cc0_stg0_0).read (Elt Ideal) ((hs0_0 t0_0).unread (iblk m c 0 t0_0)) = V m c main_v1 := by
  refine Eq.trans ?_ (iblk_0 m c)
  exact (hs0_0 t0_0).read_unread (iblk m c 0 t0_0)

/-- What the body loads from the staging buffer of window 1. -/
theorem stage_1 (c : Dev nD) : (View.whole cc0_stg1_0).read (Elt Ideal) ((hs0_1 t0_0).unread (iblk m c 1 t0_0)) = V m c main_v5 := by
  refine Eq.trans ?_ (iblk_1 m c)
  exact (hs0_1 t0_0).read_unread (iblk m c 1 t0_0)

/-- What the body loads from the staging buffer of window 2. -/
theorem stage_2 (c : Dev nD) : (View.whole cc0_stg2_0).read (Elt Ideal) ((hs0_2 t0_0).unread (iblk m c 2 t0_0)) = V m c main_v13 := by
  refine Eq.trans ?_ (iblk_2 m c)
  exact (hs0_2 t0_0).read_unread (iblk m c 2 t0_0)

/-- What the body loads from the staging buffer of window 3. -/
theorem stage_3 (c : Dev nD) : (View.whole cc0_stg3_0).read (Elt Ideal) ((hs0_3 t0_0).unread (iblk m c 3 t0_0)) = V m c main_arg5 := by
  refine Eq.trans ?_ (iblk_3 m c)
  exact (hs0_3 t0_0).read_unread (iblk m c 3 t0_0)

/-- What the body loads from the staging buffer of window 4. -/
theorem stage_4 (c : Dev nD) : (View.whole cc0_stg4_0).read (Elt Ideal) ((hs0_4 t0_0).unread (iblk m c 4 t0_0)) = V m c main_v18 := by
  refine Eq.trans ?_ (iblk_4 m c)
  exact (hs0_4 t0_0).read_unread (iblk m c 4 t0_0)

/-- What the body loads from the staging buffer of window 5. -/
theorem stage_5 (c : Dev nD) : (View.whole cc0_stg5_0).read (Elt Ideal) ((hs0_5 t0_0).unread (iblk m c 5 t0_0)) = V m c main_arg7 := by
  refine Eq.trans ?_ (iblk_5 m c)
  exact (hs0_5 t0_0).read_unread (iblk m c 5 t0_0)

/-- What the body loads from the staging buffer of window 6. -/
theorem stage_6 (c : Dev nD) : (View.whole cc0_stg6_0).read (Elt Ideal) ((hs0_6 t0_0).unread (iblk m c 6 t0_0)) = V m c main_v19 := by
  refine Eq.trans ?_ (iblk_6 m c)
  exact (hs0_6 t0_0).read_unread (iblk m c 6 t0_0)

/-- What the body loads from the staging buffer of window 7. -/
theorem stage_7 (c : Dev nD) : (View.whole cc0_stg7_0).read (Elt Ideal) ((hs0_7 t0_0).unread (iblk m c 7 t0_0)) = V m c main_v20 := by
  refine Eq.trans ?_ (iblk_7 m c)
  exact (hs0_7 t0_0).read_unread (iblk m c 7 t0_0)

/-- What the body loads from the staging buffer of window 8. -/
theorem stage_8 (c : Dev nD) : (View.whole cc0_stg8_0).read (Elt Ideal) ((hs0_8 t0_0).unread (iblk m c 8 t0_0)) = V m c main_v21 := by
  refine Eq.trans ?_ (iblk_8 m c)
  exact (hs0_8 t0_0).read_unread (iblk m c 8 t0_0)

/-- What the body loads from the staging buffer of window 9. -/
theorem stage_9 (c : Dev nD) : (View.whole cc0_stg9_0).read (Elt Ideal) ((hs0_9 t0_0).unread (iblk m c 9 t0_0)) = V m c main_v15 := by
  refine Eq.trans ?_ (iblk_9 m c)
  exact (hs0_9 t0_0).read_unread (iblk m c 9 t0_0)

/-- What the body loads from the staging buffer of window 10. -/
theorem stage_10 (c : Dev nD) : (View.whole cc0_stg10_0).read (Elt Ideal) ((hs0_10 t0_0).unread (iblk m c 10 t0_0)) = V m c main_v22 := by
  refine Eq.trans ?_ (iblk_10 m c)
  exact (hs0_10 t0_0).read_unread (iblk m c 10 t0_0)

/-- What the body loads from the staging buffer of window 11. -/
theorem stage_11 (c : Dev nD) : (View.whole cc0_stg11_0).read (Elt Ideal) ((hs0_11 t0_0).unread (iblk m c 11 t0_0)) = V m c main_v17 := by
  refine Eq.trans ?_ (iblk_11 m c)
  exact (hs0_11 t0_0).read_unread (iblk m c 11 t0_0)

/-- What the body loads from the staging buffer of window 12. -/
theorem stage_12 (c : Dev nD) : (View.whole cc0_stg12_0).read (Elt Ideal) ((hs0_12 t0_0).unread (iblk m c 12 t0_0)) = V m c main_arg17 := by
  refine Eq.trans ?_ (iblk_12 m c)
  exact (hs0_12 t0_0).read_unread (iblk m c 12 t0_0)

/-- What the body loads from the staging buffer of window 13. -/
theorem stage_13 (c : Dev nD) : (View.whole cc0_stg13_0).read (Elt Ideal) ((hs0_13 t0_0).unread (iblk m c 13 t0_0)) = V m c main_v23 := by
  refine Eq.trans ?_ (iblk_13 m c)
  exact (hs0_13 t0_0).read_unread (iblk m c 13 t0_0)

end Cert.KernelIdeal.Value

end
-- ==== Proof.Model.lean ====
/- The mathematics both programs compute, over the extended reals: one frame's features (embedding of the agents, their
   mean, two graph layers), the LSTM cell on one batch row, the state after a number of frames, and the classifier. -/
module

public import Idealize.ShloMosaic.PureOps.Ideal

@[expose] public section

noncomputable section

namespace Cert.Model

open Idealize.ShloMosaic

/-- The embedding of agent `a` at lane `e`: an affine map of its eight features, clipped below at zero. -/
def emb (x : Fin 22 → Fin 8 → EReal) (W : Fin 8 → Fin 32 → EReal) (b : Fin 32 → EReal) (a : Fin 22) (e : Fin 32) : EReal :=
  max ((∑ f, x a f * W f e) + b e) 0

/-- The mean of the embedding over the twenty-two agents. -/
def mean (x : Fin 22 → Fin 8 → EReal) (W : Fin 8 → Fin 32 → EReal) (b : Fin 32 → EReal) (e : Fin 32) : EReal :=
  (∑ a, emb x W b a e) * ((22⁻¹ : ℝ) : EReal)

/-- An affine map of thirty-two lanes clipped below at zero. -/
def layer (W : Fin 32 → Fin 32 → EReal) (b : Fin 32 → EReal) (v : Fin 32 → EReal) (d : Fin 32) : EReal :=
  max ((∑ e, v e * W e d) + b d) 0

/-- One frame's features: the agents' mean through the two layers. -/
def frame (x : Fin 22 → Fin 8 → EReal) (W : Fin 8 → Fin 32 → EReal) (b : Fin 32 → EReal) (W1 : Fin 32 → Fin 32 → EReal)
    (b1 : Fin 32 → EReal) (W2 : Fin 32 → Fin 32 → EReal) (b2 : Fin 32 → EReal) : Fin 32 → EReal :=
  layer W2 b2 (layer W1 b1 (mean x W b))

/-- What a frame contributes to the 512 gate lanes: its features times the input weights, and the two biases. -/
def gates (v : Fin 32 → EReal) (Wih : Fin 512 → Fin 32 → EReal) (bih bhh : Fin 512 → EReal) (n : Fin 512) : EReal :=
  (∑ d, v d * Wih n d) + (bih n + bhh n)

/-- Lane `l` of gate `q` among the 512 lanes: the input gate is 0, the forget gate 1, the cell gate 2, the output gate 3. -/
def lane (q : Fin 4) (l : Fin 128) : Fin 512 := ⟨128 * q + l, by omega⟩

/-- The LSTM cell's new cell state from the gates and the old one. -/
def cellC (g : Fin 512 → EReal) (c : Fin 128 → EReal) (l : Fin 128) : EReal :=
  Ideal.logistic (g (lane 1 l)) * c l + Ideal.logistic (g (lane 0 l)) * Ideal.tanh (g (lane 2 l))

/-- The LSTM cell's new hidden state from the gates and the old cell state. -/
def cellH (g : Fin 512 → EReal) (c : Fin 128 → EReal) (l : Fin 128) : EReal :=
  Ideal.logistic (g (lane 3 l)) * Ideal.tanh (cellC g c l)

/-- All the gates' lanes: the frame's contribution and the hidden state times the recurrent weights. -/
def gatesAt (u : Fin 512 → EReal) (Whh : Fin 512 → Fin 128 → EReal) (h : Fin 128 → EReal) (n : Fin 512) : EReal :=
  u n + ∑ j, h j * Whh n j

/-- One step of the LSTM on the pair of its hidden and cell states. -/
def step (u : Fin 512 → EReal) (Whh : Fin 512 → Fin 128 → EReal) (s : (Fin 128 → EReal) × (Fin 128 → EReal)) :
    (Fin 128 → EReal) × (Fin 128 → EReal) :=
  (cellH (gatesAt u Whh s.1) s.2, cellC (gatesAt u Whh s.1) s.2)

/-- The states after the first `k` frames of the sequence `u`, from zero. -/
def states (u : ℕ → Fin 512 → EReal) (Whh : Fin 512 → Fin 128 → EReal) : ℕ → (Fin 128 → EReal) × (Fin 128 → EReal)
  | 0 => (fun _ => 0, fun _ => 0)
  | k + 1 => step (u k) Whh (states u Whh k)

/-- The hidden state of one LSTM step from the zero states. -/
def first (u : Fin 512 → EReal) (l : Fin 128) : EReal :=
  Ideal.logistic (u (lane 3 l)) * Ideal.tanh (Ideal.logistic (u (lane 0 l)) * Ideal.tanh (u (lane 2 l)))

/-- The classifier: the two directions' hidden states side by side, times the weights, and the bias. -/
def logit (h r : Fin 128 → EReal) (W : Fin 256 → EReal) (b : EReal) : EReal :=
  (∑ k : Fin 256, (if hk : k.val < 128 then h ⟨k, hk⟩ else r ⟨k - 128, by omega⟩) * W k) + b

/-- The arguments the result depends on, by their coordinates. -/
structure Args where
  x : Fin 32 → Fin 128 → Fin 22 → Fin 8 → EReal
  W : Fin 8 → Fin 32 → EReal
  b : Fin 32 → EReal
  W1 : Fin 32 → Fin 32 → EReal
  b1 : Fin 32 → EReal
  W2 : Fin 32 → Fin 32 → EReal
  b2 : Fin 32 → EReal
  Wxf : Fin 512 → Fin 32 → EReal
  Whf : Fin 512 → Fin 128 → EReal
  bxf : Fin 512 → EReal
  bhf : Fin 512 → EReal
  Wxr : Fin 512 → Fin 32 → EReal
  bxr : Fin 512 → EReal
  bhr : Fin 512 → EReal
  Wc : Fin 256 → EReal
  bc : EReal

/-- The features of frame `t` of batch `b`. -/
def Args.feat (A : Args) (b : Fin 32) (t : Fin 128) : Fin 32 → EReal :=
  frame (A.x b t) A.W A.b A.W1 A.b1 A.W2 A.b2

/-- What frame `t` of batch `b` contributes to the forward gates. -/
def Args.fwd (A : Args) (b : Fin 32) (t : ℕ) : Fin 512 → EReal :=
  gates (A.feat b (Fin.ofNat 128 t)) A.Wxf A.bxf A.bhf

/-- The result of batch `b`: the forward LSTM over all frames, the reverse one over the last frame alone. -/
def Args.out (A : Args) (b : Fin 32) : EReal :=
  logit (states (A.fwd b) A.Whf 128).1 (first (gates (A.feat b 127) A.Wxr A.bxr A.bhr)) A.Wc A.bc

end Cert.Model

end
-- ==== Proof.Payload.lean ====
/- What each block of the kernel's body computes at one index. -/
module

public import Idealize.ShloMosaic.Lib.Pointwise
public import proofs.«01_k».proof.Proof.Gen.KernelIdeal.Skeleton
public import proofs.«01_k».proof.Proof.Model

@[expose] public section

noncomputable section
set_option maxRecDepth 16384

namespace Cert.KernelIdeal.Value
open Idealize.ShloMosaic Idealize.ShloMosaic.TcCoe
open Cert.KernelIdeal.Gen Cert.Model

/-- The twenty-four padded agents' lanes, added four groups of six at a time. -/
theorem sum_agents (Z : Fin 768 → EReal) (x : Fin 32) :
    (Z ⟨x, by omega⟩ + Z ⟨128 + x, by omega⟩ + Z ⟨256 + x, by omega⟩ + Z ⟨384 + x, by omega⟩ + Z ⟨512 + x, by omega⟩ + Z ⟨640 + x, by omega⟩) + (Z ⟨32 + x, by omega⟩ + Z ⟨128 + (32 + x), by omega⟩ + Z ⟨256 + (32 + x), by omega⟩ + Z ⟨384 + (32 + x), by omega⟩ + Z ⟨512 + (32 + x), by omega⟩ + Z ⟨640 + (32 + x), by omega⟩) + (Z ⟨64 + x, by omega⟩ + Z ⟨128 + (64 + x), by omega⟩ + Z ⟨256 + (64 + x), by omega⟩ + Z ⟨384 + (64 + x), by omega⟩ + Z ⟨512 + (64 + x), by omega⟩ + Z ⟨640 + (64 + x), by omega⟩) + (Z ⟨96 + x, by omega⟩ + Z ⟨128 + (96 + x), by omega⟩ + Z ⟨256 + (96 + x), by omega⟩ + Z ⟨384 + (96 + x), by omega⟩ + Z ⟨512 + (96 + x), by omega⟩ + Z ⟨640 + (96 + x), by omega⟩)
      = ∑ a : Fin 24, Z ⟨32 * a + x, by omega⟩ := by
  have hz : ∑ a : Fin 24, Z ⟨32 * a + x, by omega⟩ = ∑ k : Fin 6, ∑ q : Fin 4, Z ⟨128 * k + (32 * q + x), by omega⟩ := by
    rw [← Fintype.sum_prod_type', ← Equiv.sum_comp (finProdFinEquiv (m := 6) (n := 4))]
    refine Finset.sum_congr rfl fun p _ => congrArg Z (Fin.ext ?_)
    simp only [finProdFinEquiv_apply_val]
    omega
  rw [hz, Finset.sum_comm]
  simp [Fin.sum_univ_four, Fin.sum_univ_six]

/-- A frame's row after the first layer, times the second layer's weights: the embedding, the agents' sum and its scale, the first layer. -/
theorem pay2 (x0 x1 x2 x3 x4 x5) (r : Fin 4096) (d : Fin 32) : k0_pay2 (F := Ideal) x0 x1 x2 x3 x4 x5 (ix2 r d)
   = ∑ e, layer (fun k e => x3 (ix2 k e)) (fun e => x4 (ix2 0 e)) (fun e => (∑ a : Fin 24, max ((∑ k : Fin 176, x0 (ix2 r k) * x1 (ix2 k (⟨32 * a + e, by omega⟩ : Fin 768))) + x2 (ix2 0 (⟨32 * a + e, by omega⟩ : Fin 768))) 0) * ((22⁻¹ : ℝ) : EReal)) e * x5 (ix2 e d) := by
  pointwise [k0_pay2, layer, IdealRules.named_const.ideal_named_scalar]
  refine Finset.sum_congr rfl fun x _ => ?_
  congr 3
  refine Finset.sum_congr rfl fun x _ => ?_
  rw [IdealRules.named_const.ideal_named_scalar _ _ _ _ rfl]
  have h := sum_agents (fun j => max ((∑ k : Fin 176, x0 (ix2 r k) * x1 (ix2 k j)) + x2 (ix2 0 j)) 0) x
  beta_reduce at h
  exact congrArg₂ (· * ·) (congrArg₂ (· * ·) h rfl) rfl

/-- The same with the agents' embeddings named: the two padding agents contribute zero. -/
theorem pay2_of (x0 x1 x2 x3 x4 x5) (r : Fin 4096) (d : Fin 32) (E : Fin 22 → Fin 32 → EReal)
    (hE : ∀ (a : Fin 22) (e : Fin 32), max ((∑ k : Fin 176, x0 (ix2 r k) * x1 (ix2 k (⟨32 * a + e, by omega⟩ : Fin 768))) + x2 (ix2 0 (⟨32 * a + e, by omega⟩ : Fin 768))) 0 = E a e)
    (hP : ∀ j : Fin 768, 704 ≤ j.val → max ((∑ k : Fin 176, x0 (ix2 r k) * x1 (ix2 k j)) + x2 (ix2 0 j)) 0 = 0) :
    k0_pay2 (F := Ideal) x0 x1 x2 x3 x4 x5 (ix2 r d)
      = ∑ e, layer (fun k e => x3 (ix2 k e)) (fun e => x4 (ix2 0 e)) (fun e => (∑ a : Fin 22, E a e) * ((22⁻¹ : ℝ) : EReal)) e * x5 (ix2 e d) := by
  rw [pay2]
  refine Finset.sum_congr rfl fun e _ => congrArg (fun v => layer _ _ v e * _) (funext fun e => congrArg (· * _) ?_)
  rw [Fin.sum_univ_castSucc, Fin.sum_univ_castSucc, hP _ (by simp), hP _ (by simp; omega), add_zero, add_zero]
  exact Finset.sum_congr rfl fun a _ => hE a e

/-- The second layer: its bias added and the sum clipped below at zero. -/
theorem pay3 (v40 v41) (r : Fin 4096) (d : Fin 32): k0_pay3 (F := Ideal) v40 v41 (ix2 r d) = max (v40 (ix2 r d) + v41 (ix2 0 d)) 0 := by
  pointwise [k0_pay3]

/-- What a frame contributes to the forward gates. -/
theorem pay4 (v40 v41 x7 x9) (r : Fin 4096) (n : Fin 512): k0_pay4 (F := Ideal) v40 v41 x7 x9 (ix2 r n) = (∑ d, max (v40 (ix2 r d) + v41 (ix2 0 d)) 0 * x7 (ix2 d n)) + x9 (ix2 0 n) := by
  pointwise [k0_pay4, pay3]

/-- The forward gates of a step. -/
theorem pay7 (v57 h u) (b : Fin 32) (n : Fin 512): k0_pay7 (F := Ideal) v57 h u (ix2 b n) = u (ix2 b n) + ∑ j, h (ix2 b j) * v57 (ix2 j n) := by
  pointwise [k0_pay7]

/-- The cell state after a step. -/
theorem pay8 (v57 h s u) (b : Fin 32) (l : Fin 128): k0_pay8 (F := Ideal) v57 h s u (ix2 b l) =
   cellC (gatesAt (fun n => u (ix2 b n)) (fun n j => v57 (ix2 j n)) (fun j => h (ix2 b j))) (fun l => s (ix2 b l)) l := by
  pointwise [k0_pay8, pay7, cellC, gatesAt, lane]

/-- The hidden state after a step. -/
theorem pay9 (v57 h s u) (b : Fin 32) (l : Fin 128): k0_pay9 (F := Ideal) v57 h s u (ix2 b l) =
   cellH (gatesAt (fun n => u (ix2 b n)) (fun n j => v57 (ix2 j n)) (fun j => h (ix2 b j))) (fun l => s (ix2 b l)) l := by
  pointwise [k0_pay9, pay8, pay7, cellH, gatesAt, lane]

/-- The classifier's value of a batch row. -/
theorem pay1 (h c o W B) (b : Fin 32) : k0_pay1 (F := Ideal) h c o W B (ix2 b 0) = logit (fun l => h (ix2 b l)) (fun l => o (ix2 b l) * Ideal.tanh (c (ix2 b l))) (fun k => W (ix2 k 0)) (B (ix2 0 0)) := by
  pointwise [k0_pay1, logit]

/-- The reverse gates of the last frame. -/
theorem pay10 (v40 v41 x10 x11) (b : Fin 32) (n : Fin 512): k0_pay10 (F := Ideal) v40 v41 x10 x11 (ix2 b n) = (∑ d, max (v40 (ix2 ⟨4064 + b, by omega⟩ d) + v41 (ix2 0 d)) 0 * x10 (ix2 d n)) + x11 (ix2 0 n) := by
  pointwise [k0_pay10, pay3]

/-- The reverse cell state after its one step from zero. -/
theorem pay11 (v40 v41 x10 x11) (b : Fin 32) (l : Fin 128) : k0_pay11 (F := Ideal) v40 v41 x10 x11 (ix2 b l) = Ideal.logistic (k0_pay10 (F := Ideal) v40 v41 x10 x11 (ix2 b (lane 0 l))) * Ideal.tanh (k0_pay10 (F := Ideal) v40 v41 x10 x11 (ix2 b (lane 2 l))) := by
  pointwise [k0_pay11, lane]

/-- The reverse output gate. -/
theorem pay12 (v40 v41 x10 x11) (b : Fin 32) (l : Fin 128) : k0_pay12 (F := Ideal) v40 v41 x10 x11 (ix2 b l) = Ideal.logistic (k0_pay10 (F := Ideal) v40 v41 x10 x11 (ix2 b (lane 3 l))) := by
  pointwise [k0_pay12, lane]

end Cert.KernelIdeal.Value

end
-- ==== Proof.KernelLoop.lean ====
/- The kernel's loop: before trip `k` it carries the LSTM's states after `k` frames, batch row by batch row. -/
module

public import Idealize.ShloMosaic.Lib.Pipeline.ValueKit
public import proofs.«01_k».proof.Proof.Gen.KernelIdeal.Value
public import proofs.«01_k».proof.Proof.Payload

@[expose] public section

noncomputable section
set_option maxRecDepth 16384

namespace Cert.KernelIdeal.Value
open Idealize.ShloMosaic Idealize.ShloMosaic.TcCoe Idealize.ShloMosaic.Pipeline
open Idealize.SL Idealize.SL.Sem
open Cert.KernelIdeal.Gen Cert.Model

variable (𝒱 : Variants) (c : Dev nD) (bd : Option 𝒱.V)
  (arg0 : Memref sig .tc .vmem S4096x176 .f32) (harg0 : arg0.IsWhole)
  (arg1 : Memref sig .tc .vmem S176x768 .f32) (harg1 : arg1.IsWhole)
  (arg2 : Memref sig .tc .vmem S1x768 .f32) (harg2 : arg2.IsWhole)
  (arg3 : Memref sig .tc .vmem S32x32 .f32) (harg3 : arg3.IsWhole)
  (arg4 : Memref sig .tc .vmem S1x32 .f32) (harg4 : arg4.IsWhole)
  (arg5 : Memref sig .tc .vmem S32x32 .f32) (harg5 : arg5.IsWhole)
  (arg6 : Memref sig .tc .vmem S1x32 .f32) (harg6 : arg6.IsWhole)
  (arg7 : Memref sig .tc .vmem S32x512 .f32) (harg7 : arg7.IsWhole)
  (arg8 : Memref sig .tc .vmem S128x512 .f32) (harg8 : arg8.IsWhole)
  (arg9 : Memref sig .tc .vmem S1x512 .f32) (harg9 : arg9.IsWhole)
  (arg10 : Memref sig .tc .vmem S32x512 .f32) (harg10 : arg10.IsWhole)
  (arg11 : Memref sig .tc .vmem S1x512 .f32) (harg11 : arg11.IsWhole)
  (arg12 : Memref sig .tc .vmem S256x1 .f32) (harg12 : arg12.IsWhole)
  (arg13 : Memref sig .tc .vmem S1x1 .f32) (harg13 : arg13.IsWhole)
  (arg14 : Memref sig .tc .vmem S32x1 .f32) (harg14 : arg14.IsWhole)
  (arg15 : Memref sig .tc .vmem S4096x512 .f32) (harg15 : arg15.IsWhole)
  (v40 : FVec Ideal S4096x32 .f32) (v57 : Vec Ideal S128x512 .f32) (X : BufTy.Contents (Elt Ideal) arg15.view.ty)

/-- The rows a trip loads begin at thirty-two times its number. -/
theorem off_eq : ∀ k : Fin k0_t1_loop.trips, k0_off1 k = ![32 * k.val, 0] := by
  decide

/-- The gates' block a trip loads. -/
def loaded (k : Fin k0_t1_loop.trips) : Vec Ideal S32x512 .f32 :=
  View.readAt (Elt Ideal) arg15.view (Rect.unit (s := S4096x512) (k0_off1 k) ![32, 512] (by rw [off_eq]; revert k; decide)).toLoadRect X

/-- One trip's result: the new hidden and cell states. -/
theorem trip_eq (k : Fin k0_t1_loop.trips) (acc : FVec Ideal S32x128 .f32 × FVec Ideal S32x128 .f32) :
    tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v40 v57 X k acc
      = (k0_pay9 v57 acc.1 acc.2 (loaded arg15 X k), k0_pay8 v57 acc.1 acc.2 (loaded arg15 X k)) := by
  unfold tripR_k0_t1 trip_k0_t1
  rfl

/-- Row `b` of the block a trip loads is row `32 k + b` of the gates' array. -/
theorem loaded_at (P : S4096x512.Idx → EReal) (hX : arg15.view.read (Elt Ideal) X = P) (k : Fin k0_t1_loop.trips) (hk : k.val < 128) (b : Fin 32) (n : Fin 512) :
    loaded arg15 X k (ix2 b n) = P (ix2 (⟨32 * k + b, by omega⟩ : Fin 4096) n) := by
  subst hX
  unfold loaded
  show View.read (Elt Ideal) arg15.view X _ = View.read (Elt Ideal) arg15.view X _
  congr 1
  funext a
  refine Fin.ext ?_
  rcases a with ⟨a, ha⟩
  match a, ha with
  | 0, _ => simp [Rect.toLoadRect, off_eq]
  | 1, _ => simp [Rect.toLoadRect, off_eq]

/-- The carried states before trip `k`, row by row. -/
theorem loop_at (P : S4096x512.Idx → EReal) (hX : arg15.view.read (Elt Ideal) X = P) (u : Fin 32 → ℕ → Fin 512 → EReal)
    (hu : ∀ (b : Fin 32) (k : Fin 128) (n : Fin 512), P (ix2 (⟨32 * k + b, by omega⟩ : Fin 4096) n) = u b k n) (b : Fin 32) (k : ℕ) (hk : k ≤ 128) :
    (∀ l, (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v40 v57 X (k0_pay5, k0_pay6) k).1 (ix2 b l) = (states (u b) (fun n j => v57 (ix2 j n)) k).1 l)
      ∧ ∀ l, (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v40 v57 X (k0_pay5, k0_pay6) k).2 (ix2 b l) = (states (u b) (fun n j => v57 (ix2 j n)) k).2 l := by
  induction k with
  | zero =>
    rw [st_k0_t1_zero]
    refine ⟨fun l => ?_, fun l => ?_⟩
    · show k0_pay5 (ix2 b l) = 0
      pointwise [k0_pay5]
    · show k0_pay6 (ix2 b l) = 0
      pointwise [k0_pay6]
  | succ k ih =>
    have hk' : k < k0_t1_loop.trips := hk
    obtain ⟨ih1, ih2⟩ := ih (by omega)
    have hU : ∀ n, loaded arg15 X ⟨k, hk'⟩ (ix2 b n) = u b k n := fun n =>
      (loaded_at arg15 X P hX ⟨k, hk'⟩ hk b n).trans (hu b ⟨k, hk⟩ n)
    have hs := st_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v40 v57 X (k0_pay5, k0_pay6) ⟨k, hk'⟩
    rw [trip_eq] at hs
    rw [hs]
    refine ⟨fun l => ?_, fun l => ?_⟩
    · refine Eq.trans (pay9 _ _ _ _ b l) ?_
      simp only [hU, ih1, ih2]
      rfl
    · refine Eq.trans (pay8 _ _ _ _ b l) ?_
      simp only [hU, ih1, ih2]
      rfl

end Cert.KernelIdeal.Value

end
-- ==== Proof.KernelValue.lean ====
/- The kernel's result: the classifier on the two directions' hidden states, for every batch row. -/
module

public import proofs.«01_k».proof.Proof.KernelLoop

@[expose] public section

noncomputable section
set_option maxRecDepth 16384

namespace Cert.KernelIdeal.Value
open Idealize.ShloMosaic Idealize.ShloMosaic.TcCoe Idealize.ShloMosaic.Pipeline
open Idealize.SL Idealize.SL.Sem
open Cert.KernelIdeal.Gen Cert.Model

/-- A sum over the agents' 176 features, agent by agent. -/
theorem sum_features (g : Fin 176 → EReal) : ∑ k, g k = ∑ a : Fin 22, ∑ f : Fin 8, g ⟨8 * a + f, by omega⟩ := by
  rw [← Fintype.sum_prod_type', ← Equiv.sum_comp (finProdFinEquiv (m := 22) (n := 8))]
  refine Finset.sum_congr rfl fun p _ => congrArg g (Fin.ext ?_)
  simp only [finProdFinEquiv_apply_val]
  omega

/-- What the kernel's windows hold, in terms of the arguments. -/
structure Holds (A : Args) (x0 : FVec Ideal S4096x176 .f32) (x1 : FVec Ideal S176x768 .f32) (x2 : FVec Ideal S1x768 .f32)
    (x3 : FVec Ideal S32x32 .f32) (x4 : FVec Ideal S1x32 .f32) (x5 : FVec Ideal S32x32 .f32) (x6 : FVec Ideal S1x32 .f32)
    (x7 : FVec Ideal S32x512 .f32) (x8 : FVec Ideal S128x512 .f32) (x9 : FVec Ideal S1x512 .f32)
    (x10 : FVec Ideal S32x512 .f32) (x11 : FVec Ideal S1x512 .f32) (x12 : FVec Ideal S256x1 .f32) (x13 : FVec Ideal S1x1 .f32) : Prop where
  x (t : Fin 128) (b : Fin 32) (a : Fin 22) (f : Fin 8) : x0 (ix2 ⟨32 * t + b, by omega⟩ ⟨8 * a + f, by omega⟩) = A.x b t a f
  W (a : Fin 22) (f : Fin 8) (b : Fin 22) (e : Fin 32) :
    x1 (ix2 ⟨8 * a + f, by omega⟩ ⟨32 * b + e, by omega⟩) = if a.val = b.val then A.W f e else 0
  W_pad (k : Fin 176) (j : Fin 768) : 704 ≤ j.val → x1 (ix2 k j) = 0
  b (b : Fin 22) (e : Fin 32) : x2 (ix2 0 ⟨32 * b + e, by omega⟩) = A.b e
  b_pad (j : Fin 768) : 704 ≤ j.val → x2 (ix2 0 j) = 0
  W1 (k e : Fin 32) : x3 (ix2 k e) = A.W1 k e
  b1 (e : Fin 32) : x4 (ix2 0 e) = A.b1 e
  W2 (k e : Fin 32) : x5 (ix2 k e) = A.W2 k e
  b2 (e : Fin 32) : x6 (ix2 0 e) = A.b2 e
  Wxf (d : Fin 32) (n : Fin 512) : x7 (ix2 d n) = A.Wxf n d
  Whf (j : Fin 128) (n : Fin 512) : x8 (ix2 j n) = A.Whf n j
  bf (n : Fin 512) : x9 (ix2 0 n) = A.bxf n + A.bhf n
  Wxr (d : Fin 32) (n : Fin 512) : x10 (ix2 d n) = A.Wxr n d
  br (n : Fin 512) : x11 (ix2 0 n) = A.bxr n + A.bhr n
  Wc (k : Fin 256) : x12 (ix2 k 0) = A.Wc k
  bc : x13 (ix2 0 0) = A.bc

section
variable {A : Args} {x0 : FVec Ideal S4096x176 .f32} {x1 : FVec Ideal S176x768 .f32} {x2 : FVec Ideal S1x768 .f32}
  {x3 : FVec Ideal S32x32 .f32} {x4 : FVec Ideal S1x32 .f32} {x5 : FVec Ideal S32x32 .f32} {x6 : FVec Ideal S1x32 .f32}
  {x7 : FVec Ideal S32x512 .f32} {x8 : FVec Ideal S128x512 .f32} {x9 : FVec Ideal S1x512 .f32}
  {x10 : FVec Ideal S32x512 .f32} {x11 : FVec Ideal S1x512 .f32} {x12 : FVec Ideal S256x1 .f32} {x13 : FVec Ideal S1x1 .f32}
  (H : Holds A x0 x1 x2 x3 x4 x5 x6 x7 x8 x9 x10 x11 x12 x13)
include H

/-- The large product's lane of agent `a` is the agent's embedding. -/
theorem emb_at (t : Fin 128) (b : Fin 32) (a : Fin 22) (e : Fin 32) :
    max ((∑ k : Fin 176, x0 (ix2 ⟨32 * t + b, by omega⟩ k) * x1 (ix2 k ⟨32 * a + e, by omega⟩)) + x2 (ix2 0 ⟨32 * a + e, by omega⟩)) 0
      = emb (A.x b t) A.W A.b a e := by
  rw [H.b, sum_features]
  simp only [H.x, H.W]
  unfold emb
  congr 2
  rw [Finset.sum_eq_single a]
  · simp only [if_true]
  · intro a' _ h
    refine Finset.sum_eq_zero fun f _ => ?_
    rw [if_neg (fun h' => h (Fin.ext h')), mul_zero]
  · intro h
    exact absurd (Finset.mem_univ a) h

/-- The padding lanes of the large product are zero. -/
theorem emb_pad (r : Fin 4096) (j : Fin 768) (hj : 704 ≤ j.val) :
    max ((∑ k : Fin 176, x0 (ix2 r k) * x1 (ix2 k j)) + x2 (ix2 0 j)) 0 = 0 := by
  rw [H.b_pad j hj, Finset.sum_eq_zero fun k _ => by rw [H.W_pad k j hj, mul_zero], add_zero, max_self]

/-- The features of frame `t` of batch `b`, as the kernel computes them. -/
theorem feat_eq (t : Fin 128) (b : Fin 32) (d : Fin 32) :
    max (k0_pay2 (F := Ideal) x0 x1 x2 x3 x4 x5 (ix2 ⟨32 * t + b, by omega⟩ d) + x6 (ix2 0 d)) 0 = A.feat b t d := by
  rw [pay2_of x0 x1 x2 x3 x4 x5 ⟨32 * t + b, by omega⟩ d _ (emb_at H t b) (emb_pad H _), H.b2]
  simp only [H.b1, H.W1, H.W2]
  rfl

/-- The gates' array holds the frames' contributions to the forward gates. -/
theorem fwd_eq (b : Fin 32) (t : Fin 128) (n : Fin 512) :
    k0_pay4 (F := Ideal) (k0_pay2 x0 x1 x2 x3 x4 x5) x6 x7 x9 (ix2 ⟨32 * t + b, by omega⟩ n) = A.fwd b t n := by
  rw [pay4, H.bf]
  simp only [feat_eq H, H.Wxf]
  rw [Args.fwd, show Fin.ofNat 128 t.val = t from Fin.ext (Nat.mod_eq_of_lt t.isLt)]
  rfl

/-- The last frames' contributions to the reverse gates. -/
theorem rev_eq (b : Fin 32) (n : Fin 512) :
    k0_pay10 (F := Ideal) (k0_pay2 x0 x1 x2 x3 x4 x5) x6 x10 x11 (ix2 b n) = gates (A.feat b 127) A.Wxr A.bxr A.bhr n := by
  rw [pay10, H.br]
  have h := fun d => feat_eq H 127 b d
  simp only [show (32 * (127 : Fin 128).val) = 4064 from rfl] at h
  simp only [h, H.Wxr]
  rfl

/-- The classifier on the forward direction's last hidden state and the reverse direction's first one. -/
theorem result_eq (hid : FVec Ideal S32x128 .f32) (b : Fin 32)
    (hh : ∀ l, hid (ix2 b l) = (states (A.fwd b) A.Whf 128).1 l) :
    k0_pay1 (F := Ideal) hid (k0_pay11 (k0_pay2 x0 x1 x2 x3 x4 x5) x6 x10 x11) (k0_pay12 (k0_pay2 x0 x1 x2 x3 x4 x5) x6 x10 x11) x12 x13 (ix2 b 0)
      = A.out b := by
  rw [pay1, H.bc]
  simp only [hh, pay11, pay12, rev_eq H, H.Wc]
  rfl

end

end Cert.KernelIdeal.Value

end
-- ==== Proof.KernelArray.lean ====
/- The kernel's output array: the classifier's value of every batch row. -/
module

public import Idealize.ShloMosaic.Lib.Pipeline.ValueKit
public import Idealize.ShloMosaic.Lib.VecWindow
public import proofs.«01_k».proof.Proof.Entry
public import proofs.«01_k».proof.Proof.Windows
public import proofs.«01_k».proof.Proof.KernelValue

@[expose] public section

noncomputable section
set_option maxRecDepth 16384

namespace Cert.KernelIdeal.Value
open Idealize.ShloMosaic Idealize.ShloMosaic.TcCoe Idealize.ShloMosaic.Pipeline
open Idealize.SL Idealize.SL.Sem
open Cert.KernelIdeal.Gen Cert.Model

variable (m : (ℓ : Loc nD τ sig) → Buf (Elt Ideal) ℓ)

/-- The kernel's arguments by their coordinates. -/
def args (c : Dev nD) : Args where
  x b t a f := m ((c : Thread nD τ).loc main_arg0) (ix4 b t a f)
  W f e := m ((c : Thread nD τ).loc main_arg3) (ix2 f e)
  b e := m ((c : Thread nD τ).loc main_arg4) (ix1 e)
  W1 k e := m ((c : Thread nD τ).loc main_arg5) (ix2 k e)
  b1 e := m ((c : Thread nD τ).loc main_arg6) (ix1 e)
  W2 k e := m ((c : Thread nD τ).loc main_arg7) (ix2 k e)
  b2 e := m ((c : Thread nD τ).loc main_arg8) (ix1 e)
  Wxf n d := m ((c : Thread nD τ).loc main_arg9) (ix2 n d)
  Whf n j := m ((c : Thread nD τ).loc main_arg10) (ix2 n j)
  bxf n := m ((c : Thread nD τ).loc main_arg11) (ix1 n)
  bhf n := m ((c : Thread nD τ).loc main_arg12) (ix1 n)
  Wxr n d := m ((c : Thread nD τ).loc main_arg13) (ix2 n d)
  bxr n := m ((c : Thread nD τ).loc main_arg15) (ix1 n)
  bhr n := m ((c : Thread nD τ).loc main_arg16) (ix1 n)
  Wc k := m ((c : Thread nD τ).loc main_arg17) (ix2 k 0)
  bc := m ((c : Thread nD τ).loc main_arg18) (ix1 0)

/-- The windows hold the arguments as the host operations before the launch laid them out. -/
theorem holds (c : Dev nD) : Holds (args m c) (V m c main_v1) (V m c main_v5) (V m c main_v13) (V m c main_arg5) (V m c main_v18)
    (V m c main_arg7) (V m c main_v19) (V m c main_v20) (V m c main_v21) (V m c main_v15) (V m c main_v22) (V m c main_v17)
    (V m c main_arg17) (V m c main_v23) where
  x := feat_at m c
  W := wbig_at m c
  W_pad := wbig_pad m c
  b := bbig_at m c
  b_pad := bbig_pad m c
  W1 k e := congrFun (V_main_arg5 m c) (ix2 k e)
  b1 := b1_at m c
  W2 k e := congrFun (V_main_arg7 m c) (ix2 k e)
  b2 := b2_at m c
  Wxf := wihf_at m c
  Whf := whhf_at m c
  bf := bf_at m c
  Wxr := wihr_at m c
  br := br_at m c
  Wc k := congrFun (V_main_arg17 m c) (ix2 k 0)
  bc := bcls_at m c

set_option maxHeartbeats 4000000 in
/-- The kernel's output array. -/
theorem final (c : Dev nD) : (dats m 0 c).arrAt 14 cfg0.N = fun j => (args m c).out (j 0) := by
  refine (dats m 0 c).arrAt_eq_of_after_last 14 t0_0 (by decide) _ fun j => ?_
  blk_simp
  rw [after0_14]
  unfold outsAt0
  frame_out
  obtain ⟨b, q, rfl⟩ : ∃ b q, j = ix2 b q := ⟨_, _, eq_ix2 j⟩
  obtain rfl : q = 0 := Subsingleton.elim _ _
  rw [stage_0 m c]
  rw [stage_1 m c]
  rw [stage_2 m c]
  rw [stage_3 m c]
  rw [stage_4 m c]
  rw [stage_5 m c]
  rw [stage_6 m c]
  rw [stage_7 m c]
  rw [stage_8 m c]
  rw [stage_9 m c]
  rw [stage_10 m c]
  rw [stage_11 m c]
  rw [stage_12 m c]
  rw [stage_13 m c]
  refine result_eq (holds m c) _ b fun l => ?_
  refine Eq.trans ((loop_at _ _ _ _ _ _ _ _ _ _ _ _ _ _ _ _ _ _ _ _ _ _ _ _ _ _ _ _ _ _ _ _ _ _ _ _ _ _ _ ?hX (args m c).fwd (fun b k n => fwd_eq (holds m c) b k n) b 128 le_rfl).1 l) ?_
  case hX => exact View.read_writes_full _ _ _ _ _
  rw [show (fun (n : Fin 512) (j : Fin 128) => V m c main_v21 (ix2 j n)) = (args m c).Whf from funext fun n => funext fun j => (holds m c).Whf j n]

end Cert.KernelIdeal.Value

end
-- ==== Proof.Graph.lean ====
/- The graph of the reference: 4096 frames of 22 agents, an edge between any two agents of one frame. -/
module

public import Idealize.ShloMosaic.Lib.Pointwise
public import proofs.«01_k».proof.Proof.Model

@[expose] public section

noncomputable section

namespace Cert.Model

/-- The node of agent `a` of frame `f`. -/
def node (f : Fin 4096) (a : Fin 22) : Fin 90112 := ⟨22 * f + a, by omega⟩

/-- Different frames or agents have different nodes. -/
theorem node_inj {f f' : Fin 4096} {a a' : Fin 22} : node f a = node f' a' ↔ f = f' ∧ a = a' := by
  simp only [node, Fin.ext_iff]; omega

/-- Where the `k`-th edge out of agent `i` leads: agent `i` itself is skipped. -/
def other (i : Fin 22) (k : Fin 21) : Fin 22 := ⟨if k.val < i.val then k.val else k.val + 1, by split <;> omega⟩

/-- The number of the `k`-th edge out of agent `i` of frame `f`. -/
def edge (f : Fin 4096) (i : Fin 22) (k : Fin 21) : Fin 1892352 := ⟨(f * 22 + i) * 21 + k, by omega⟩

/-- A sum over the edges, frame by frame, agent by agent. -/
theorem sum_edges {M : Type*} [AddCommMonoid M] (F : Fin 1892352 → M) :
    ∑ e, F e = ∑ f, ∑ i, ∑ k, F (edge f i k) := by
  let e : (Fin 4096 × Fin 22 × Fin 21) ≃ Fin 1892352 :=
    { toFun := fun p => edge p.1 p.2.1 p.2.2
      invFun := fun e => (⟨e / 462, by omega⟩, ⟨e / 21 % 22, by omega⟩, ⟨e % 21, by omega⟩)
      left_inv := fun p => by
        obtain ⟨f, i, k⟩ := p
        simp only [edge, Prod.mk.injEq, Fin.ext_iff]
        omega
      right_inv := fun e => by
        simp only [edge, Fin.ext_iff]
        omega }
  rw [← Fintype.sum_equiv e (fun p => F (edge p.1 p.2.1 p.2.2)) F fun _ => rfl]
  simp only [Fintype.sum_prod_type]

/-- The edges into agent `a` come from all the others, one from each; with the agent's own term the sum is over all. -/
theorem sum_other (u : Fin 22 → EReal) (a : Fin 22) :
    (∑ i, ∑ k, if other i k = a then u i else 0) + u a = ∑ i, u i := by
  have h : ∀ i, (∑ k, if other i k = a then u i else 0) = if i = a then 0 else u i := by
    intro i
    by_cases e : i = a
    · rw [if_pos e]
      refine Finset.sum_eq_zero fun k _ => if_neg ?_
      subst e
      simp only [other, Fin.ext_iff]
      split <;> omega
    · rw [if_neg e]
      have e' : i.val ≠ a.val := fun h => e (Fin.ext h)
      rw [Finset.sum_eq_single (⟨if a.val < i.val then a.val else a.val - 1, by split <;> omega⟩ : Fin 21)]
      · rw [if_pos]
        simp only [other, Fin.ext_iff]
        split <;> (try split) <;> omega
      · intro k _ hk
        refine if_neg fun h => hk ?_
        simp only [other, Fin.ext_iff] at h ⊢
        split at h <;> split <;> omega
      · exact fun h => absurd (Finset.mem_univ _) h
  simp only [h]
  rw [← Finset.add_sum_erase _ u (Finset.mem_univ a), add_comm (u a), ← Finset.add_sum_erase _ _ (Finset.mem_univ a), if_pos rfl, zero_add]
  congr 1
  exact Finset.sum_congr rfl fun i hi => if_neg (Finset.ne_of_mem_erase hi)

/-- The weight of every edge and of every loop: one over the 22 agents. -/
def share : EReal := ((22 : ℝ)⁻¹ : ℝ)

/-- The weight is nonnegative. -/
theorem share_nonneg : 0 ≤ share := by
  unfold share; exact_mod_cast (by positivity : (0 : ℝ) ≤ (22 : ℝ)⁻¹)

/-- A nonnegative real times a sum. -/
theorem share_mul_sum {ι : Type*} (s : Finset ι) (y : ι → EReal) : share * ∑ i ∈ s, y i = ∑ i ∈ s, share * y i := by
  classical
  induction s using Finset.induction_on with
  | empty => simp
  | insert a s ha ih =>
    rw [Finset.sum_insert ha, Finset.sum_insert ha, EReal.left_distrib_of_nonneg_of_ne_top share_nonneg (EReal.coe_ne_top _), ih]

/-- A sum of nonnegative numbers times anything. -/
theorem sum_mul_of_nonneg {ι : Type*} (s : Finset ι) (x : ι → EReal) (hx : ∀ i, 0 ≤ x i) (w : EReal) :
    (∑ i ∈ s, x i) * w = ∑ i ∈ s, x i * w := by
  classical
  induction s using Finset.induction_on with
  | empty => simp
  | insert a s ha ih =>
    rw [Finset.sum_insert ha, Finset.sum_insert ha, EReal.right_distrib_of_nonneg (hx a) (Finset.sum_nonneg fun i _ => hx i), ih]

/-- The mean over the agents commutes with a product by weights, where the features are nonnegative. -/
theorem mean_weights (E : Fin 22 → Fin 32 → EReal) (hE : ∀ i e, 0 ≤ E i e) (w : Fin 32 → EReal) :
    ∑ i, share * ∑ e, E i e * w e = ∑ e, ((∑ a, E a e) * share) * w e := by
  simp only [share_mul_sum]
  rw [Finset.sum_comm]
  refine Finset.sum_congr rfl fun e _ => ?_
  rw [mul_comm (∑ a, E a e), mul_assoc, sum_mul_of_nonneg _ _ (fun i => hE i e), share_mul_sum]

/-- The mean of 22 equal terms is the term. -/
theorem mean_const (y : EReal) : ∑ _i : Fin 22, share * y = y := by
  rw [Finset.sum_const, Finset.card_univ, Fintype.card_fin, EReal.nsmul_eq_mul, ← mul_assoc]
  have : ((22 : ℕ) : EReal) * share = 1 := by
    unfold share
    have : ((22 : ℕ) : EReal) = ((22 : ℝ) : EReal) := by norm_cast
    rw [this, ← EReal.coe_mul]
    norm_num
  rw [this, one_mul]

end Cert.Model

end
-- ==== Proof.Routes.lean ====
/- The reference's gathers and scatters along the edges, at coordinates. -/
module

public import Idealize.ShloMosaic.Lib.Pointwise
public import Idealize.ShloMosaic.Lib.Routing.Ops
public import Idealize.ShloMosaic.Lib.Routing.OpsPair
public import proofs.«01_k».proof.Proof.Gen.ReferenceIdeal.Run
public import proofs.«01_k».proof.Proof.Graph

@[expose] public section

noncomputable section
set_option maxRecDepth 16384

namespace Cert.ReferenceIdeal.Value
open Idealize.ShloMosaic Idealize.ShloMosaic.TcCoe
open Idealize.SL Idealize.SL.Sem
open Cert.Model Cert.ReferenceIdeal.Gen

/-- The index words of a list of nodes: a negative one would count from the end. -/
def words (i : IVec S1892352 32) : IVec S1892352x1 32 :=
  broadcastInDim S1892352x1 ![0] bcast_S1892352_S1892352x1_0
    (select (cmpi .slt i (broadcastInDim S1892352 ![] bcast_S_S1892352 (constantI S_ 32 0#32)))
      (addi i (broadcastInDim S1892352 ![] bcast_S_S1892352 (constantI S_ 32 90112#32))) i)

/-- One over the square root of each node's degree, the loop counted. -/
def rootDeg (dst : IVec S1892352 32) : FVec Ideal S90112 .f32 :=
  Host.divf (broadcastInDim S90112 ![] bcast_S_S90112 (constant S_ .f32 0x3F800000#32))
    (Host.sqrt (addf (Host.scatterAdd scatter_S90112_S1892352x1_S1892352_n_0_0_1
      (broadcastInDim S90112 ![] bcast_S_S90112 (constant S_ .f32 0x00000000#32)) (words dst)
      (broadcastInDim S1892352 ![] bcast_S_S1892352 (constant S_ .f32 0x3F800000#32)))
      (broadcastInDim S90112 ![] bcast_S_S90112 (constant S_ .f32 0x3F800000#32))))

/-- The convolution of the products `xw` along the edges, and the bias. -/
def conv (xw : FVec Ideal S90112x32 .f32) (b : FVec Ideal S32 .f32) (src dst : IVec S1892352 32) : FVec Ideal S90112x32 .f32 :=
  addf (addf (Host.scatterAdd scatter_S90112x32_S1892352x1_S1892352x32_1_0_0_1
      (broadcastInDim S90112x32 ![] bcast_S_S90112x32 (constant S_ .f32 0x00000000#32)) (words dst)
      (mulf (broadcastInDim S1892352x32 ![0, 1] bcast_S1892352x1_S1892352x32_0_1 (broadcastInDim S1892352x1 ![0] bcast_S1892352_S1892352x1_0
          (mulf (Host.gather gather_S90112_S1892352x1_S1892352_n_0_n_n_0_1_1 (rootDeg dst) (words src))
            (Host.gather gather_S90112_S1892352x1_S1892352_n_0_n_n_0_1_1 (rootDeg dst) (words dst)))))
        (Host.gather gather_S90112x32_S1892352x1_S1892352x32_1_0_n_n_0_1_132 xw (words src))))
    (mulf (broadcastInDim S90112x32 ![0, 1] bcast_S90112x1_S90112x32_0_1 (broadcastInDim S90112x1 ![0] bcast_S90112_S90112x1_0
        (mulf (rootDeg dst) (rootDeg dst)))) xw))
    (broadcastInDim S90112x32 ![0, 1] bcast_S1x32_S90112x32_0_1 (broadcastInDim S1x32 ![1] bcast_S32_S1x32_1 b))

/-- The word of a node. -/
theorem words_at (i : IVec S1892352 32) (e : Fin 1892352) (n : Fin 90112) (h : i (ix1 e) = BitVec.ofNat 32 n.val) (z : Fin 1) :
    words i (ix2 e z) = BitVec.ofNat 32 n.val := by
  have hs : (BitVec.ofNat 32 n.val).slt 0#32 = false := by
    rw [BitVec.slt_eq_decide, BitVec.toInt_eq_toNat_of_lt (by rw [BitVec.toNat_ofNat]; omega)]
    simp
    omega
  pointwise [words]
  rw [h]
  have hc : IntOp.cmpi .slt (BitVec.ofNat 32 n.val) 0#32 = 0#1 := by
    simp only [IntOp.cmpi, hs]
    rfl
  rw [hc]
  rfl

/-- A node's word read as a signed number. -/
theorem node_toInt (n : Fin 90112) : (BitVec.ofNat 32 n.val).toInt = n.val := by
  rw [BitVec.toInt_eq_toNat_of_lt] <;> rw [BitVec.toNat_ofNat] <;> omega

/-- Where an edge's count lands. -/
theorem lands_deg (idx : IVec S1892352x1 32) (e : Fin 1892352) (n n' : Fin 90112) (h : idx (ix2 e (0 : Fin 1)) = BitVec.ofNat 32 n.val) :
    scatter_S90112_S1892352x1_S1892352_n_0_0_1.resultIdx? (ix1 e) idx = some (ix1 n') ↔ n = n' := by
  rw [Routing.resultIdx?_eq_some]
  have hw : scatter_S90112_S1892352x1_S1892352_n_0_0_1.window (ix1 e) 0 = 0 := rfl
  have hs : scatter_S90112_S1892352x1_S1892352_n_0_0_1.start (ix1 e) idx 0 = n.val := by
    unfold ScatterDims.start
    rw [dif_pos (by decide)]
    refine Eq.trans (congrArg (fun k => (idx k).toInt) ?_) ((congrArg BitVec.toInt h).trans (node_toInt n))
    funext a
    fin_cases a <;> rfl
  constructor
  · intro h
    have := h 0
    rw [hw, hs] at this
    exact Fin.ext (by simpa using this)
  · rintro rfl a
    obtain rfl : a = 0 := Subsingleton.elim _ _
    rw [hw, hs]
    simp

/-- Where an edge's row lands. -/
theorem lands_row (idx : IVec S1892352x1 32) (e : Fin 1892352) (d d' : Fin 32) (n n' : Fin 90112) (h : idx (ix2 e (0 : Fin 1)) = BitVec.ofNat 32 n.val) :
    scatter_S90112x32_S1892352x1_S1892352x32_1_0_0_1.resultIdx? (ix2 e d) idx = some (ix2 n' d') ↔ n = n' ∧ d = d' := by
  rw [Routing.resultIdx?_eq_some]
  refine Fin.forall_fin_two.trans ?_
  have hw0 : scatter_S90112x32_S1892352x1_S1892352x32_1_0_0_1.window (ix2 e d) 0 = 0 := rfl
  have hw1 : scatter_S90112x32_S1892352x1_S1892352x32_1_0_0_1.window (ix2 e d) 1 = d.val := rfl
  have hs1 : scatter_S90112x32_S1892352x1_S1892352x32_1_0_0_1.start (ix2 e d) idx 1 = 0 := rfl
  have hs0 : scatter_S90112x32_S1892352x1_S1892352x32_1_0_0_1.start (ix2 e d) idx 0 = n.val := by
    unfold ScatterDims.start
    rw [dif_pos (by decide)]
    refine Eq.trans (congrArg (fun k => (idx k).toInt) ?_) ((congrArg BitVec.toInt h).trans (node_toInt n))
    funext a
    fin_cases a <;> rfl
  rw [hw0, hw1, hs0, hs1]
  simp [Fin.ext_iff]

/-- An entry of a list of one number per node, read along the edges. -/
theorem gather_at (x : FVec Ideal S90112 .f32) (idx : IVec S1892352x1 32) (e : Fin 1892352) (n : Fin 90112) (h : idx (ix2 e (0 : Fin 1)) = BitVec.ofNat 32 n.val) :
    Host.gather gather_S90112_S1892352x1_S1892352_n_0_n_n_0_1_1 x idx (ix1 e) = x (ix1 n) := by
  unfold Host.gather
  refine congrArg x ?_
  funext a
  obtain rfl : a = 0 := Subsingleton.elim _ _
  apply Fin.ext
  have hb : gather_S90112_S1892352x1_S1892352_n_0_n_n_0_1_1.batchCoord (ix1 e) 0 = 0 := rfl
  have ho : gather_S90112_S1892352x1_S1892352_n_0_n_n_0_1_1.offCoord (ix1 e) 0 = 0 := rfl
  have hs : gather_S90112_S1892352x1_S1892352_n_0_n_n_0_1_1.start (ix1 e) idx 0 = n.val := by
    unfold GatherDims.start
    rw [dif_pos (by decide)]
    have hk : ∀ k, k = ix2 e (0 : Fin 1) → min (idx k).toInt.toNat (90112 - 1) = n.val := by
      rintro k rfl
      rw [h, node_toInt]
      omega
    refine hk _ ?_
    funext a
    fin_cases a <;> rfl
  change gather_S90112_S1892352x1_S1892352_n_0_n_n_0_1_1.start (ix1 e) idx 0 + gather_S90112_S1892352x1_S1892352_n_0_n_n_0_1_1.batchCoord (ix1 e) 0
    + gather_S90112_S1892352x1_S1892352_n_0_n_n_0_1_1.offCoord (ix1 e) 0 = n.val
  omega

/-- A row read along the edges. -/
theorem gather_row_at (x : FVec Ideal S90112x32 .f32) (idx : IVec S1892352x1 32) (e : Fin 1892352) (n : Fin 90112) (d : Fin 32)
    (h : idx (ix2 e (0 : Fin 1)) = BitVec.ofNat 32 n.val) :
    Host.gather gather_S90112x32_S1892352x1_S1892352x32_1_0_n_n_0_1_132 x idx (ix2 e d) = x (ix2 n d) :=
  Routing.gather_row _ rfl rfl rfl rfl rfl x idx e d n h (by norm_num)

/-- What a graph's edge lists hold: the source's and the destination's node of each edge. -/
structure Edges (src dst : IVec S1892352 32) : Prop where
  src : ∀ f i k, src (ix1 (edge f i k)) = BitVec.ofNat 32 (node f i).val
  dst : ∀ f i k, dst (ix1 (edge f i k)) = BitVec.ofNat 32 (node f (other i k)).val

/-- A sum over the edges of what lands at a node, by the edges' counts. -/
theorem sum_deg {src dst : IVec S1892352 32} (H : Edges src dst) (u : EReal) (f : Fin 4096) (a : Fin 22) :
    (∑ e : Fin 1892352, if scatter_S90112_S1892352x1_S1892352_n_0_0_1.resultIdx? (ix1 e) (words dst) = some (ix1 (node f a)) then u else 0)
      = ∑ i, ∑ k, if other i k = a then u else 0 := by
  rw [sum_edges, Finset.sum_eq_single f]
  · refine Finset.sum_congr rfl fun i _ => Finset.sum_congr rfl fun k _ => if_congr ?_ rfl rfl
    rw [lands_deg _ _ _ _ (words_at _ _ _ (H.dst f i k) 0), node_inj]
    exact and_iff_right rfl
  · intro f' _ hf
    refine Finset.sum_eq_zero fun i _ => Finset.sum_eq_zero fun k _ => if_neg fun h => ?_
    rw [lands_deg _ _ _ _ (words_at _ _ _ (H.dst f' i k) 0), node_inj] at h
    exact hf h.1
  · exact fun h => absurd (Finset.mem_univ _) h

/-- A sum over the edges' rows of what lands at a node's entry. -/
theorem sum_rows {src dst : IVec S1892352 32} (H : Edges src dst) (u : FVec Ideal S1892352x32 .f32) (f : Fin 4096) (a : Fin 22) (d : Fin 32) :
    (∑ e : Fin 1892352, ∑ d' : Fin 32, if scatter_S90112x32_S1892352x1_S1892352x32_1_0_0_1.resultIdx? (ix2 e d') (words dst) = some (ix2 (node f a) d) then (u (ix2 e d') : EReal) else 0)
      = ∑ i, ∑ k, if other i k = a then (u (ix2 (edge f i k) d) : EReal) else 0 := by
  rw [sum_edges, Finset.sum_eq_single f]
  · refine Finset.sum_congr rfl fun i _ => Finset.sum_congr rfl fun k _ => ?_
    rw [Finset.sum_eq_single d]
    · refine if_congr ?_ rfl rfl
      rw [lands_row _ _ _ _ _ _ (words_at _ _ _ (H.dst f i k) 0), node_inj]
      exact ⟨fun h => h.1.2, fun h => ⟨⟨rfl, h⟩, rfl⟩⟩
    · intro d' _ hd
      refine if_neg fun h => hd ?_
      rw [lands_row _ _ _ _ _ _ (words_at _ _ _ (H.dst f i k) 0)] at h
      exact h.2
    · exact fun h => absurd (Finset.mem_univ _) h
  · intro f' _ hf
    refine Finset.sum_eq_zero fun i _ => Finset.sum_eq_zero fun k _ => Finset.sum_eq_zero fun d' _ => if_neg fun h => ?_
    rw [lands_row _ _ _ _ _ _ (words_at _ _ _ (H.dst f' i k) 0), node_inj] at h
    exact hf h.1.1
  · exact fun h => absurd (Finset.mem_univ _) h

/-- The sum of a scatter with addition at a node. -/
theorem scatter_deg (x : FVec Ideal S90112 .f32) (idx : IVec S1892352x1 32) (u : FVec Ideal S1892352 .f32) (n : Fin 90112) :
    Host.scatterAdd scatter_S90112_S1892352x1_S1892352_n_0_0_1 x idx u (ix1 n)
      = (x (ix1 n) + ∑ e, if scatter_S90112_S1892352x1_S1892352_n_0_0_1.resultIdx? (ix1 e) idx = some (ix1 n) then u (ix1 e) else 0 : EReal) := by
  change (x (ix1 n) + ∑ j ∈ Finset.univ.filter (fun j => scatter_S90112_S1892352x1_S1892352_n_0_0_1.resultIdx? j idx = some (ix1 n)), u j : EReal) = _
  rw [Finset.sum_filter, sum_idx1]

/-- The sum of a scatter of rows with addition at a node's entry. -/
theorem scatter_rows (x : FVec Ideal S90112x32 .f32) (idx : IVec S1892352x1 32) (u : FVec Ideal S1892352x32 .f32) (n : Fin 90112) (d : Fin 32) :
    Host.scatterAdd scatter_S90112x32_S1892352x1_S1892352x32_1_0_0_1 x idx u (ix2 n d)
      = (x (ix2 n d) + ∑ e, ∑ d', if scatter_S90112x32_S1892352x1_S1892352x32_1_0_0_1.resultIdx? (ix2 e d') idx = some (ix2 n d) then u (ix2 e d') else 0 : EReal) := by
  change (x (ix2 n d) + ∑ j ∈ Finset.univ.filter (fun j => scatter_S90112x32_S1892352x1_S1892352x32_1_0_0_1.resultIdx? j idx = some (ix2 n d)), u j : EReal) = _
  rw [Finset.sum_filter, sum_idx2]

end Cert.ReferenceIdeal.Value

end
-- ==== Proof.Conv.lean ====
/- One graph convolution of the reference, at coordinates. -/
module

public import Idealize.ShloMosaic.Lib.Pointwise
public import Idealize.ShloMosaic.Lib.Routing.Ops
public import Idealize.ShloMosaic.Lib.Routing.OpsPair
public import proofs.«01_k».proof.Proof.Gen.ReferenceIdeal.Run
public import proofs.«01_k».proof.Proof.Routes

@[expose] public section

noncomputable section
set_option maxRecDepth 16384

namespace Cert.ReferenceIdeal.Value
open Idealize.ShloMosaic Idealize.ShloMosaic.TcCoe
open Idealize.SL Idealize.SL.Sem
open Cert.Model Cert.ReferenceIdeal.Gen

/-- The count's start, at a node. -/
theorem zeros_at (n : Fin 90112) : (broadcastInDim S90112 ![] bcast_S_S90112 (constant S_ .f32 0x00000000#32) : FVec Ideal S90112 .f32) (ix1 n) = (0 : EReal) := by
  pointwise

/-- What each edge counts. -/
theorem ones_at (e : Fin 1892352) : (broadcastInDim S1892352 ![] bcast_S_S1892352 (constant S_ .f32 0x3F800000#32) : FVec Ideal S1892352 .f32) (ix1 e) = (1 : EReal) := by
  pointwise

/-- The rows' start, at a node's entry. -/
theorem zero_rows_at (n : Fin 90112) (d : Fin 32) :
    (broadcastInDim S90112x32 ![] bcast_S_S90112x32 (constant S_ .f32 0x00000000#32) : FVec Ideal S90112x32 .f32) (ix2 n d) = (0 : EReal) := by
  pointwise

/-- The root of a node's degree from the count of its edges. -/
theorem root_at (S : FVec Ideal S90112 .f32) (n : Fin 90112) :
    (Host.divf (broadcastInDim S90112 ![] bcast_S_S90112 (constant S_ .f32 0x3F800000#32))
      (Host.sqrt (addf S (broadcastInDim S90112 ![] bcast_S_S90112 (constant S_ .f32 0x3F800000#32)))) : FVec Ideal S90112 .f32) (ix1 n)
      = Ideal.div 1 (Ideal.sqrt ((S (ix1 n) : EReal) + 1)) := by
  pointwise

/-- What an edge carries: the two ends' roots times the source's entry. -/
theorem carry_at (p q : FVec Ideal S1892352 .f32) (r : FVec Ideal S1892352x32 .f32) (e : Fin 1892352) (d : Fin 32) :
    (mulf (broadcastInDim S1892352x32 ![0, 1] bcast_S1892352x1_S1892352x32_0_1 (broadcastInDim S1892352x1 ![0] bcast_S1892352_S1892352x1_0 (mulf p q))) r
      : FVec Ideal S1892352x32 .f32) (ix2 e d) = (((p (ix1 e) : EReal) * q (ix1 e)) * r (ix2 e d) : EReal) := by
  pointwise

/-- A node's sum: what its edges bring, its own term and the bias. -/
theorem node_at (S xw : FVec Ideal S90112x32 .f32) (R : FVec Ideal S90112 .f32) (b : FVec Ideal S32 .f32) (n : Fin 90112) (d : Fin 32) :
    (addf (addf S (mulf (broadcastInDim S90112x32 ![0, 1] bcast_S90112x1_S90112x32_0_1 (broadcastInDim S90112x1 ![0] bcast_S90112_S90112x1_0 (mulf R R))) xw))
      (broadcastInDim S90112x32 ![0, 1] bcast_S1x32_S90112x32_0_1 (broadcastInDim S1x32 ![1] bcast_S32_S1x32_1 b)) : FVec Ideal S90112x32 .f32) (ix2 n d)
      = (((S (ix2 n d) : EReal) + ((R (ix1 n) : EReal) * R (ix1 n)) * xw (ix2 n d)) + b (ix1 d) : EReal) := by
  pointwise

/-- Each node's degree is 22, with its loop. -/
theorem rootDeg_at {src dst : IVec S1892352 32} (H : Edges src dst) (f : Fin 4096) (a : Fin 22) :
    rootDeg dst (ix1 (node f a)) = ((1 / √(22 : ℝ) : ℝ) : EReal) := by
  have hd : (∑ i : Fin 22, ∑ k, if other i k = a then (1 : EReal) else 0) + 1 = ((22 : ℝ) : EReal) := by
    rw [sum_other (fun _ => 1) a]
    simp
    norm_cast
  refine (root_at _ _).trans ?_
  have hc := (scatter_deg (broadcastInDim S90112 ![] bcast_S_S90112 (constant S_ .f32 0x00000000#32)) (words dst)
    (broadcastInDim S1892352 ![] bcast_S_S1892352 (constant S_ .f32 0x3F800000#32)) (node f a)).trans
    (congrArg₂ (· + ·) (zeros_at _) (Finset.sum_congr rfl fun e _ => if_congr Iff.rfl (ones_at e) rfl))
  rw [hc, sum_deg H, zero_add, hd, Ideal.sqrt_coe]
  rw [if_neg (by norm_num), Ideal.div_coe (Real.sqrt_ne_zero'.2 (by norm_num)), one_mul]

/-- One convolution at a node: the mean of the frame's products, and the bias. -/
theorem conv_at {src dst : IVec S1892352 32} (H : Edges src dst) (xw : FVec Ideal S90112x32 .f32) (b : FVec Ideal S32 .f32) (f : Fin 4096) (a : Fin 22) (d : Fin 32) :
    conv xw b src dst (ix2 (node f a) d) = ((∑ i, share * xw (ix2 (node f i) d)) + b (ix1 d) : EReal) := by
  have hr : (((1 / √(22 : ℝ) : ℝ) : EReal)) * ((1 / √(22 : ℝ) : ℝ) : EReal) = share := by
    rw [← EReal.coe_mul, share, div_mul_div_comm, Real.mul_self_sqrt (by norm_num), one_mul, one_div]
  have hu : ∀ i k, (mulf (broadcastInDim S1892352x32 ![0, 1] bcast_S1892352x1_S1892352x32_0_1 (broadcastInDim S1892352x1 ![0] bcast_S1892352_S1892352x1_0
          (mulf (Host.gather gather_S90112_S1892352x1_S1892352_n_0_n_n_0_1_1 (rootDeg dst) (words src))
            (Host.gather gather_S90112_S1892352x1_S1892352_n_0_n_n_0_1_1 (rootDeg dst) (words dst)))))
        (Host.gather gather_S90112x32_S1892352x1_S1892352x32_1_0_n_n_0_1_132 xw (words src)) : FVec Ideal S1892352x32 .f32) (ix2 (edge f i k) d)
        = (share * xw (ix2 (node f i) d) : EReal) := fun i k => by
    refine (carry_at _ _ _ _ _).trans ?_
    rw [gather_at _ _ _ _ (words_at _ _ _ (H.src f i k) 0), gather_at _ _ _ _ (words_at _ _ _ (H.dst f i k) 0),
      gather_row_at _ _ _ _ _ (words_at _ _ _ (H.src f i k) 0), rootDeg_at H, rootDeg_at H, hr]
  have hS := (scatter_rows (broadcastInDim S90112x32 ![] bcast_S_S90112x32 (constant S_ .f32 0x00000000#32)) (words dst)
      (mulf (broadcastInDim S1892352x32 ![0, 1] bcast_S1892352x1_S1892352x32_0_1 (broadcastInDim S1892352x1 ![0] bcast_S1892352_S1892352x1_0
          (mulf (Host.gather gather_S90112_S1892352x1_S1892352_n_0_n_n_0_1_1 (rootDeg dst) (words src))
            (Host.gather gather_S90112_S1892352x1_S1892352_n_0_n_n_0_1_1 (rootDeg dst) (words dst)))))
        (Host.gather gather_S90112x32_S1892352x1_S1892352x32_1_0_n_n_0_1_132 xw (words src))) (node f a) d).trans
    (congrArg₂ (· + ·) (zero_rows_at _ _) ((sum_rows H _ f a d).trans
      (Finset.sum_congr rfl fun i _ => Finset.sum_congr rfl fun k _ => if_congr Iff.rfl (hu i k) rfl)))
  unfold conv
  refine (node_at _ _ _ _ _ _).trans ?_
  rw [rootDeg_at H, hr, hS, zero_add, sum_other (fun i => share * xw (ix2 (node f i) d)) a]

end Cert.ReferenceIdeal.Value

end
-- ==== Proof.Layers.lean ====
/- The reference up to its scan, as functions of arrays and at coordinates. -/
module

public import Idealize.ShloMosaic.Lib.StableHlo.ReadAt
public import Idealize.ShloMosaic.Lib.StableHlo.RunRead
public import Idealize.ShloMosaic.Lib.Pointwise
public import proofs.«01_k».proof.Proof.Conv

@[expose] public section

noncomputable section
set_option maxRecDepth 16384

namespace Cert.ReferenceIdeal.Value
open Idealize.ShloMosaic Idealize.ShloMosaic.TcCoe
open Idealize.SL Idealize.SL.Sem
open Cert.Model Cert.ReferenceIdeal.Gen

/-- The frame of time `t` of batch `b`. -/
def fr (b : Fin 32) (t : Fin 128) : Fin 4096 := ⟨128 * b + t, by omega⟩

/-- The agents' embedding before it is clipped. -/
def embed (x : FVec Ideal S32x128x22x8 .f32) (W : FVec Ideal S8x32 .f32) (b : FVec Ideal S32 .f32) : FVec Ideal S90112x32 .f32 :=
  addf (Host.dotGeneral dot_S90112x8_S8x32_S90112x32_1_0_0_1_n_n none (shapeCast S90112x8 x shapeCasts_S32x128x22x8_S90112x8) W)
    (broadcastInDim S90112x32 ![0, 1] bcast_S1x32_S90112x32_0_1 (broadcastInDim S1x32 ![1] bcast_S32_S1x32_1 b))

/-- An array clipped below at zero. -/
def clip (x : FVec Ideal S90112x32 .f32) : FVec Ideal S90112x32 .f32 :=
  maximumf x (broadcastInDim S90112x32 ![] bcast_S_S90112x32 (constant S_ .f32 0x00000000#32))

/-- A layer's products. -/
def prod (x : FVec Ideal S90112x32 .f32) (W : FVec Ideal S32x32 .f32) : FVec Ideal S90112x32 .f32 :=
  Host.dotGeneral dot_S90112x32_S32x32_S90112x32_1_0_0_1_n_n none x W

/-- The nodes numbered by a frame and an agent, as one list. -/
def ends (v a : IVec S4096x22x21 32) : IVec S1892352 32 :=
  shapeCast S1892352 (addi (muli v (broadcastInDim S4096x22x21 ![] bcast_S_S4096x22x21 (constantI S_ 32 22#32))) a) shapeCasts_S4096x22x21_S1892352

/-- The mean over each frame's agents, laid out by time and batch. -/
def pool (x : FVec Ideal S90112x32 .f32) : FVec Ideal S128x32x32 .f32 :=
  transpose S128x32x32 [1, 0, 2]
    (shapeCast S32x128x32
      (Host.divf (Host.reduceAdd (shapeCast S4096x22x32 x shapeCasts_S90112x32_S4096x22x32) (constant (F := Ideal) S_ .f32 0x00000000#32) reducesTo_S4096x22x32_S4096x32_d1 h_S_)
        (broadcastInDim S4096x32 ![] bcast_S_S4096x32 (constant S_ .f32 0x41B00000#32))) shapeCasts_S4096x32_S32x128x32)
    transposes_S32x128x32_S128x32x32_1_0_2

/-- The agents along the edges: every agent's neighbours, in order. -/
def neighbours : IVec S4096x22x21 32 :=
  select (cmpi .slt (iotaInDim S4096x22x21 32 2) (iotaInDim S4096x22x21 32 1)) (iotaInDim S4096x22x21 32 2)
    (addi (iotaInDim S4096x22x21 32 2) (broadcastInDim S4096x22x21 ![] bcast_S_S4096x22x21 (constantI S_ 32 1#32)))

/-- The embedding at a node. -/
theorem embed_at (x : FVec Ideal S32x128x22x8 .f32) (W : FVec Ideal S8x32 .f32) (B : FVec Ideal S32 .f32) (b : Fin 32) (t : Fin 128) (a : Fin 22) (e : Fin 32) :
    embed x W B (ix2 (node (fr b t) a) e) = ((∑ f : Fin 8, x (ix4 b t a f) * W (ix2 f e)) + B (ix1 e) : EReal) := by
  pointwise [embed, node, fr]

/-- A clipped array at an entry. -/
theorem clip_at (x : FVec Ideal S90112x32 .f32) (n : Fin 90112) (e : Fin 32) : clip x (ix2 n e) = (max (x (ix2 n e)) 0 : EReal) := by
  pointwise [clip]

/-- A layer's products at an entry. -/
theorem prod_at (x : FVec Ideal S90112x32 .f32) (W : FVec Ideal S32x32 .f32) (n : Fin 90112) (d : Fin 32) :
    prod x W (ix2 n d) = (∑ e : Fin 32, x (ix2 n e) * W (ix2 e d) : EReal) := by
  pointwise [prod]

/-- The number of agents as the reference writes it. -/
theorem ofBits_agents : Ideal.ofBits .f32 0x41B00000#32 = ((22 : ℝ) : EReal) := by
  simp [Ideal.ofBits, Ideal.ieee, -EReal.coe_mul]
  norm_num [zpow_neg]

/-- The pooled features of a frame. -/
theorem pool_at (x : FVec Ideal S90112x32 .f32) (b : Fin 32) (t : Fin 128) (d : Fin 32) :
    pool x (ix3 t b d) = Ideal.div (∑ a : Fin 22, x (ix2 (node (fr b t) a) d) : EReal) ((22 : ℝ) : EReal) := by
  pointwise [pool, node, fr]
  rw [ofBits_agents]
  refine congrArg (fun s => Ideal.div s _) (Finset.sum_congr rfl fun a _ => ?_)
  refine congrArg (fun n => x (ix2 n d)) (Fin.ext ?_)
  change (b.val * 128 + t.val) * 22 + a.val = 22 * (128 * b.val + t.val) + a.val
  omega

/-- The node words at an edge. -/
theorem ends_at (v w : IVec S4096x22x21 32) (f : Fin 4096) (i : Fin 22) (k : Fin 21) (a : Fin 22)
    (hv : v (ix3 f i k) = BitVec.ofNat 32 f.val) (hw : w (ix3 f i k) = BitVec.ofNat 32 a.val) :
    ends v w (ix1 (edge f i k)) = BitVec.ofNat 32 (node f a).val := by
  pointwise [ends, edge]
  rw [hv, hw]
  change BitVec.ofNat 32 f.val * BitVec.ofNat 32 22 + BitVec.ofNat 32 a.val = _
  rw [← BitVec.ofNat_mul, ← BitVec.ofNat_add, Nat.mul_comm]
  rfl

/-- The neighbours' words. -/
theorem neighbours_at (f : Fin 4096) (i : Fin 22) (k : Fin 21) : neighbours (ix3 f i k) = BitVec.ofNat 32 (other i k).val := by
  have hn : ∀ n : ℕ, n < 2 ^ 31 → (BitVec.ofNat 32 n).toInt = n := fun n h => by
    rw [BitVec.toInt_eq_toNat_of_lt] <;> rw [BitVec.toNat_ofNat] <;> omega
  have hc : IntOp.cmpi .slt (BitVec.ofNat 32 k.val) (BitVec.ofNat 32 i.val) = BitVec.ofBool (decide (k.val < i.val)) := by
    simp only [IntOp.cmpi, BitVec.slt_eq_decide]
    rw [hn _ (by omega), hn _ (by omega)]
    simp
  pointwise [neighbours, other]
  rw [hc]
  by_cases h : k.val < i.val
  · rw [if_pos h, decide_eq_true h]
    rfl
  · rw [if_neg h, decide_eq_false h, BitVec.ofNat_add]
    rfl

end Cert.ReferenceIdeal.Value

end
-- ==== Proof.Features.lean ====
/- The frames' features as the reference computes them, at coordinates. -/
module

public import proofs.«01_k».proof.Proof.Layers

@[expose] public section

noncomputable section
set_option maxRecDepth 16384

namespace Cert.ReferenceIdeal.Value
open Idealize.ShloMosaic Idealize.ShloMosaic.TcCoe
open Idealize.SL Idealize.SL.Sem
open Cert.Model Cert.ReferenceIdeal.Gen

/-- Twenty-two equal terms, summed and divided by their number. -/
theorem div_agents (y : EReal) : Ideal.div (∑ _a : Fin 22, y) ((22 : ℝ) : EReal) = y := by
  have hs : ((1 / 22 : ℝ) : EReal) = share := by rw [share, one_div]
  rw [Ideal.div_coe (by norm_num), hs, mul_comm, share_mul_sum, mean_const]

variable (x : FVec Ideal S32x128x22x8 .f32) (W : FVec Ideal S8x32 .f32) (B : FVec Ideal S32 .f32)
variable (W1 : FVec Ideal S32x32 .f32) (B1 : FVec Ideal S32 .f32) (W2 : FVec Ideal S32x32 .f32) (B2 : FVec Ideal S32 .f32)
variable (src dst : IVec S1892352 32)

/-- The agents' embedding. -/
def hidden0 : FVec Ideal S90112x32 .f32 := clip (embed x W B)

/-- The nodes after the first convolution. -/
def hidden1 : FVec Ideal S90112x32 .f32 := clip (conv (prod (hidden0 x W B) W1) B1 src dst)

/-- The nodes after the second convolution. -/
def hidden2 : FVec Ideal S90112x32 .f32 := clip (conv (prod (hidden1 x W B W1 B1 src dst) W2) B2 src dst)

/-- The embedding at a node is the agent's. -/
theorem hidden0_at (b : Fin 32) (t : Fin 128) (a : Fin 22) (e : Fin 32) :
    hidden0 x W B (ix2 (node (fr b t) a) e) = emb (fun a f => x (ix4 b t a f)) (fun f e => W (ix2 f e)) (fun e => B (ix1 e)) a e := by
  unfold hidden0
  rw [clip_at, embed_at]
  rfl

variable {src dst} (H : Edges src dst)
include H

/-- Every agent of a frame gets the layer's value of the agents' mean. -/
theorem hidden1_at (b : Fin 32) (t : Fin 128) (a : Fin 22) (d : Fin 32) :
    hidden1 x W B W1 B1 src dst (ix2 (node (fr b t) a) d)
      = layer (fun e d => W1 (ix2 e d)) (fun d => B1 (ix1 d)) (mean (fun a f => x (ix4 b t a f)) (fun f e => W (ix2 f e)) (fun e => B (ix1 e))) d := by
  unfold hidden1
  rw [clip_at, conv_at H]
  simp only [prod_at, hidden0_at]
  rw [mean_weights (emb (fun a f => x (ix4 b t a f)) (fun f e => W (ix2 f e)) (fun e => B (ix1 e))) (fun a e => le_max_right _ _)]
  rfl

/-- The second layer's value: every agent of the frame brings the same. -/
theorem hidden2_at (b : Fin 32) (t : Fin 128) (a : Fin 22) (d : Fin 32) :
    hidden2 x W B W1 B1 W2 B2 src dst (ix2 (node (fr b t) a) d)
      = frame (fun a f => x (ix4 b t a f)) (fun f e => W (ix2 f e)) (fun e => B (ix1 e)) (fun e d => W1 (ix2 e d)) (fun d => B1 (ix1 d))
          (fun e d => W2 (ix2 e d)) (fun d => B2 (ix1 d)) d := by
  unfold hidden2
  rw [clip_at, conv_at H]
  simp only [prod_at, hidden1_at x W B W1 B1 H]
  rw [mean_const]
  rfl

/-- The pooled features of a frame. -/
theorem features_at (b : Fin 32) (t : Fin 128) (d : Fin 32) :
    pool (hidden2 x W B W1 B1 W2 B2 src dst) (ix3 t b d)
      = frame (fun a f => x (ix4 b t a f)) (fun f e => W (ix2 f e)) (fun e => B (ix1 e)) (fun e d => W1 (ix2 e d)) (fun d => B1 (ix1 d))
          (fun e d => W2 (ix2 e d)) (fun d => B2 (ix1 d)) d := by
  rw [pool_at]
  simp only [hidden2_at x W B W1 B1 W2 B2 H]
  exact div_agents _

end Cert.ReferenceIdeal.Value

end
-- ==== Proof.RefReads.lean ====
/- What each of the reference's host stretches leaves of the arrays the next ones read. -/
module

public import Idealize.ShloMosaic.Lib.StableHlo.ReadAt
public import Idealize.ShloMosaic.Lib.StableHlo.RunRead
public import proofs.«01_k».proof.Proof.Layers

@[expose] public section

noncomputable section
set_option maxRecDepth 16384

namespace Cert.ReferenceIdeal.Value
open Idealize.ShloMosaic Idealize.ShloMosaic.TcCoe
open Idealize.SL Idealize.SL.Sem
open Cert.Model Cert.ReferenceIdeal.Gen

variable (X : Valuation τ sig (Elt Ideal))

set_option maxHeartbeats 4000000 in
/-- The first layer's convolution. -/
theorem read_v76 : StableHlo.after hostOps0_4 X (Proc.devRef .tc main_v76)
    = conv (prod (X (Proc.devRef .tc main_v20)) (X (Proc.devRef .tc main_arg5)))
        (X (Proc.devRef .tc main_arg6)) (X (Proc.devRef .tc main_v10)) (X (Proc.devRef .tc main_v14)) := by
  simp only [hostOps0_4]
  after_reads_simp
  rfl

set_option maxHeartbeats 4000000 in
/-- The second layer's convolution. -/
theorem read_v133 : StableHlo.after hostOps0_6 X (Proc.devRef .tc main_v133)
    = conv (prod (X (Proc.devRef .tc main_v77)) (X (Proc.devRef .tc main_arg7)))
        (X (Proc.devRef .tc main_arg8)) (X (Proc.devRef .tc main_v10)) (X (Proc.devRef .tc main_v14)) := by
  simp only [hostOps0_6]
  after_reads_simp
  rfl

/-- The embedding. -/
theorem read_v19 : StableHlo.after hostOps0_2 X (Proc.devRef .tc main_v19)
    = embed (X (Proc.devRef .tc main_arg0)) (X (Proc.devRef .tc main_arg3)) (X (Proc.devRef .tc main_arg4)) := by
  simp only [hostOps0_2]
  after_reads_simp
  rfl

/-- The sources' nodes. -/
theorem read_v10 : StableHlo.after hostOps0_2 X (Proc.devRef .tc main_v10) = ends (X (Proc.devRef .tc main_v0)) (X (Proc.devRef .tc main_v1)) := by
  simp only [hostOps0_2]
  after_reads_simp
  rfl

/-- The destinations' nodes. -/
theorem read_v14 : StableHlo.after hostOps0_2 X (Proc.devRef .tc main_v14) = ends (X (Proc.devRef .tc main_v0)) (X (Proc.devRef .tc main_v6)) := by
  simp only [hostOps0_2]
  after_reads_simp
  rfl

/-- The embedding clipped. -/
theorem read_v20 : StableHlo.after hostOps0_3 X (Proc.devRef .tc main_v20) = clip (X (Proc.devRef .tc main_v19)) := by
  simp only [hostOps0_3]
  after_reads_simp
  simp -implicitDefEqProofs only [StableHlo.TRef.toBuf, StableHlo.TRef.ofBuf, cast_cast, cast_eq]
  rfl

/-- The first layer clipped. -/
theorem read_v77 : StableHlo.after hostOps0_5 X (Proc.devRef .tc main_v77) = clip (X (Proc.devRef .tc main_v76)) := by
  simp only [hostOps0_5]
  after_reads_simp
  simp -implicitDefEqProofs only [StableHlo.TRef.toBuf, StableHlo.TRef.ofBuf, cast_cast, cast_eq]
  rfl

/-- The second layer clipped. -/
theorem read_v134 : StableHlo.after hostOps0_7 X (Proc.devRef .tc main_v134) = clip (X (Proc.devRef .tc main_v133)) := by
  simp only [hostOps0_7]
  after_reads_simp
  simp -implicitDefEqProofs only [StableHlo.TRef.toBuf, StableHlo.TRef.ofBuf, cast_cast, cast_eq]
  rfl

/-- The sources' agents along the edges. -/
theorem read_v6 : StableHlo.after hostOps0_1 (StableHlo.after hostOps0 X) (Proc.devRef .tc main_v6) = neighbours := by
  simp only [hostOps0_1, hostOps0]
  after_reads_simp
  simp -implicitDefEqProofs only [StableHlo.TRef.toBuf, StableHlo.TRef.ofBuf, cast_cast, cast_eq]
  rfl

/-- The frames' numbers along the edges. -/
theorem read_v0 : StableHlo.after hostOps0_1 (StableHlo.after hostOps0 X) (Proc.devRef .tc main_v0) = iotaInDim S4096x22x21 32 0 := by
  simp only [hostOps0_1, hostOps0]
  after_reads_simp

/-- The destinations' agents along the edges. -/
theorem read_v1 : StableHlo.after hostOps0_1 (StableHlo.after hostOps0 X) (Proc.devRef .tc main_v1) = iotaInDim S4096x22x21 32 1 := by
  simp only [hostOps0_1, hostOps0]
  after_reads_simp

/-- The frames' features by time and batch. -/
theorem read_xs : StableHlo.after hostOps0_8 X (Proc.devRef .tc main_v146_0) = pool (X (Proc.devRef .tc main_v134)) := by
  simp only [hostOps0_8]
  after_reads_simp
  rfl

/-- The same with the times reversed. -/
theorem read_xs_rev : StableHlo.after hostOps0_8 X (Proc.devRef .tc main_v146_1) = Host.reverse [0] (pool (X (Proc.devRef .tc main_v134))) := by
  simp only [hostOps0_8]
  after_reads_simp
  rfl

end Cert.ReferenceIdeal.Value

end
-- ==== Proof.RefLoop.lean ====
/- One step of the reference's scan, at coordinates. -/
module

public import Idealize.ShloMosaic.Lib.Pointwise
public import proofs.«01_k».proof.Proof.Gen.ReferenceIdeal.Run
public import proofs.«01_k».proof.Proof.Model

@[expose] public section

noncomputable section
set_option maxRecDepth 16384

namespace Cert.ReferenceIdeal.Value
open Idealize.ShloMosaic Idealize.ShloMosaic.TcCoe Idealize.ShloMosaic.StableHlo
open Idealize.SL Idealize.SL.Sem
open Cert.Model Cert.ReferenceIdeal.Gen

/-- A step counter below 128 read as a signed number. -/
theorem counter_toInt (k : Fin 128) : (BitVec.ofNat 32 k.val).toInt = k.val := by
  rw [BitVec.toInt_eq_toNat_of_lt] <;> rw [BitVec.toNat_ofNat] <;> omega

/-- The frame a step reads. -/
theorem slice_at (x : FVec Ideal S128x32x32 .f32) (n : S_.Idx → BitVec 32) (k : Fin 128) (hn : ∀ i, n i = BitVec.ofNat 32 k.val) (b d : Fin 32) :
    shapeCast S32x32 (Host.dynamicSlice S1x32x32 x (fun k => (((![n, constantI S_ 32 0#32, constantI S_ 32 0#32] : Fin 3 → (⟨S_, .i32⟩ : BufTy).Contents (Elt Ideal))) k (Shape.Idx.first h_S_)).toInt) sliceFits_S128x32x32_S1x32x32) shapeCasts_S1x32x32_S32x32 (ix2 b d)
      = x (ix3 k b d) := by
  have h0 : Host.clampedStart S128x32x32 S1x32x32 sliceFits_S128x32x32_S1x32x32.1 (fun k => (((![n, constantI S_ 32 0#32, constantI S_ 32 0#32] : Fin 3 → (⟨S_, .i32⟩ : BufTy).Contents (Elt Ideal))) k (Shape.Idx.first h_S_)).toInt) 0 = k.val :=
    Host.clampedStart_of_le _ _ 0 k.val ((congrArg BitVec.toInt (hn _)).trans (counter_toInt k)) (by change k.val + 1 ≤ 128; omega)
  have h1 : Host.clampedStart S128x32x32 S1x32x32 sliceFits_S128x32x32_S1x32x32.1 (fun k => (((![n, constantI S_ 32 0#32, constantI S_ 32 0#32] : Fin 3 → (⟨S_, .i32⟩ : BufTy).Contents (Elt Ideal))) k (Shape.Idx.first h_S_)).toInt) 1 = 0 :=
    Host.clampedStart_of_le _ _ 1 0 (by rfl) (by change 0 + 32 ≤ 32; decide)
  have h2 : Host.clampedStart S128x32x32 S1x32x32 sliceFits_S128x32x32_S1x32x32.1 (fun k => (((![n, constantI S_ 32 0#32, constantI S_ 32 0#32] : Fin 3 → (⟨S_, .i32⟩ : BufTy).Contents (Elt Ideal))) k (Shape.Idx.first h_S_)).toInt) 2 = 0 :=
    Host.clampedStart_of_le _ _ 2 0 (by rfl) (by change 0 + 32 ≤ 32; decide)
  pointwise
  simp only [h0, h1, h2, Nat.zero_add]

/-- The array of hidden states after a step: the step's row is the new state, the others are as before. -/
theorem update_at (x : FVec Ideal S128x32x128 .f32) (u : FVec Ideal S32x128 .f32) (n : S_.Idx → BitVec 32) (k : Fin 128) (hn : ∀ i, n i = BitVec.ofNat 32 k.val)
    (t : Fin 128) (b : Fin 32) (l : Fin 128) :
    Host.dynamicUpdateSlice x (broadcastInDim S1x32x128 ![1, 2] bcast_S32x128_S1x32x128_1_2 u) (fun k => (((![n, constantI S_ 32 0#32, constantI S_ 32 0#32] : Fin 3 → (⟨S_, .i32⟩ : BufTy).Contents (Elt Ideal))) k (Shape.Idx.first h_S_)).toInt) updateFits_S128x32x128_S1x32x128 (ix3 t b l)
      = if t = k then u (ix2 b l) else x (ix3 t b l) := by
  have h0 : Host.clampedStart S128x32x128 S1x32x128 updateFits_S128x32x128_S1x32x128.1 (fun k => (((![n, constantI S_ 32 0#32, constantI S_ 32 0#32] : Fin 3 → (⟨S_, .i32⟩ : BufTy).Contents (Elt Ideal))) k (Shape.Idx.first h_S_)).toInt) 0 = k.val :=
    Host.clampedStart_of_le _ _ 0 k.val ((congrArg BitVec.toInt (hn _)).trans (counter_toInt k)) (by change k.val + 1 ≤ 128; omega)
  have h1 : Host.clampedStart S128x32x128 S1x32x128 updateFits_S128x32x128_S1x32x128.1 (fun k => (((![n, constantI S_ 32 0#32, constantI S_ 32 0#32] : Fin 3 → (⟨S_, .i32⟩ : BufTy).Contents (Elt Ideal))) k (Shape.Idx.first h_S_)).toInt) 1 = 0 :=
    Host.clampedStart_of_le _ _ 1 0 (by rfl) (by change 0 + 32 ≤ 32; decide)
  have h2 : Host.clampedStart S128x32x128 S1x32x128 updateFits_S128x32x128_S1x32x128.1 (fun k => (((![n, constantI S_ 32 0#32, constantI S_ 32 0#32] : Fin 3 → (⟨S_, .i32⟩ : BufTy).Contents (Elt Ideal))) k (Shape.Idx.first h_S_)).toInt) 2 = 0 :=
    Host.clampedStart_of_le _ _ 2 0 (by rfl) (by change 0 + 128 ≤ 128; decide)
  pointwise
  simp only [h0, h1, h2]
  by_cases e : t = k
  · subst e
    simp
  · rw [if_neg e, dif_neg]
    rintro ⟨⟨p, q⟩, -⟩
    exact e (Fin.ext (by omega))

/-- The gates of one step from the operands at coordinates. -/
theorem gate_at (x : FVec Ideal S32x32 .f32) (Wih : FVec Ideal S512x32 .f32) (bih bhh : FVec Ideal S512 .f32) (h : FVec Ideal S32x128 .f32) (Whh : FVec Ideal S512x128 .f32)
    (b : Fin 32) (n : Fin 512) :
    (addf (F := Ideal) (addf (addf (Host.dotGeneral dot_S32x32_S32x512_S32x512_1_0_0_1_n_n none x (transpose S32x512 [1, 0] Wih transposes_S512x32_S32x512_1_0)) (broadcastInDim S32x512 ![0, 1] bcast_S1x512_S32x512_0_1 (broadcastInDim S1x512 ![1] bcast_S512_S1x512_1 bih))) (Host.dotGeneral dot_S32x128_S128x512_S32x512_1_0_0_1_n_n none h (transpose S128x512 [1, 0] Whh transposes_S512x128_S128x512_1_0))) (broadcastInDim S32x512 ![0, 1] bcast_S1x512_S32x512_0_1 (broadcastInDim S1x512 ![1] bcast_S512_S1x512_1 bhh)) : FVec Ideal S32x512 .f32) (ix2 b n)
      = gatesAt (gates (fun d => x (ix2 b d)) (fun n d => Wih (ix2 n d)) (fun n => bih (ix1 n)) (fun n => bhh (ix1 n))) (fun n j => Whh (ix2 n j)) (fun j => h (ix2 b j)) n := by
  pointwise [gatesAt, gates]
  rw [add_right_comm, add_assoc _ (bih _)]

/-- The gates of one step from the operands' values. -/
theorem gate_eq {x : FVec Ideal S32x32 .f32} {Wih : FVec Ideal S512x32 .f32} {bih bhh : FVec Ideal S512 .f32} {h : FVec Ideal S32x128 .f32} {Whh : FVec Ideal S512x128 .f32}
    {b : Fin 32} {v : Fin 32 → EReal} {Wx : Fin 512 → Fin 32 → EReal} {bx bh : Fin 512 → EReal} {s : Fin 128 → EReal} {Wh : Fin 512 → Fin 128 → EReal}
    (hx : ∀ d, x (ix2 b d) = v d) (hWx : ∀ n d, Wih (ix2 n d) = Wx n d) (hbx : ∀ n, bih (ix1 n) = bx n) (hbh : ∀ n, bhh (ix1 n) = bh n)
    (hs : ∀ j, h (ix2 b j) = s j) (hWh : ∀ n j, Whh (ix2 n j) = Wh n j) (n : Fin 512) :
    (addf (F := Ideal) (addf (addf (Host.dotGeneral dot_S32x32_S32x512_S32x512_1_0_0_1_n_n none x (transpose S32x512 [1, 0] Wih transposes_S512x32_S32x512_1_0)) (broadcastInDim S32x512 ![0, 1] bcast_S1x512_S32x512_0_1 (broadcastInDim S1x512 ![1] bcast_S512_S1x512_1 bih))) (Host.dotGeneral dot_S32x128_S128x512_S32x512_1_0_0_1_n_n none h (transpose S128x512 [1, 0] Whh transposes_S512x128_S128x512_1_0))) (broadcastInDim S32x512 ![0, 1] bcast_S1x512_S32x512_0_1 (broadcastInDim S1x512 ![1] bcast_S512_S1x512_1 bhh)) : FVec Ideal S32x512 .f32) (ix2 b n)
      = gatesAt (gates v Wx bx bh) Wh s n := by
  rw [gate_at]
  simp only [hx, hWx, hbx, hbh, hs, hWh]

/-- The new cell state of one step from the gates and the old one. -/
theorem cellC_at (z : FVec Ideal S32x512 .f32) (c : FVec Ideal S32x128 .f32) (b : Fin 32) (l : Fin 128) :
    (addf (F := Ideal) (mulf (Host.divf (broadcastInDim S32x128 ![] bcast_S_S32x128 (constant S_ .f32 0x3F800000#32)) (addf (broadcastInDim S32x128 ![] bcast_S_S32x128 (constant S_ .f32 0x3F800000#32)) (Host.exp (Host.negf (extractStridedSlice S32x128 ![0, 128] z slices_S32x512_S32x128_0_128))))) c) (mulf (Host.divf (broadcastInDim S32x128 ![] bcast_S_S32x128 (constant S_ .f32 0x3F800000#32)) (addf (broadcastInDim S32x128 ![] bcast_S_S32x128 (constant S_ .f32 0x3F800000#32)) (Host.exp (Host.negf (extractStridedSlice S32x128 ![0, 0] z slices_S32x512_S32x128_0_0))))) (Host.tanh (extractStridedSlice S32x128 ![0, 256] z slices_S32x512_S32x128_0_256))) : FVec Ideal S32x128 .f32) (ix2 b l)
      = cellC (fun n => z (ix2 b n)) (fun l => c (ix2 b l)) l := by
  pointwise [cellC, lane]
  simp [Ideal.logistic, Ideal.tanh]

/-- The new hidden state of one step from the gates and the new cell state. -/
theorem cellH_at (z : FVec Ideal S32x512 .f32) (c : FVec Ideal S32x128 .f32) (b : Fin 32) (l : Fin 128) :
    (mulf (F := Ideal) (Host.divf (broadcastInDim S32x128 ![] bcast_S_S32x128 (constant S_ .f32 0x3F800000#32)) (addf (broadcastInDim S32x128 ![] bcast_S_S32x128 (constant S_ .f32 0x3F800000#32)) (Host.exp (Host.negf (extractStridedSlice S32x128 ![0, 384] z slices_S32x512_S32x128_0_384))))) (Host.tanh c) : FVec Ideal S32x128 .f32) (ix2 b l)
      = Ideal.logistic (z (ix2 b (lane 3 l))) * Ideal.tanh (c (ix2 b l)) := by
  pointwise [lane]
  simp [Ideal.logistic, Ideal.tanh]

/-- What the scan reads: both directions' frames and weights, and the counter at step `k`. -/
structure Reads (A : Args) (k : Fin 128) (V : Valuation τ sig (Elt Ideal)) : Prop where
  ctr : ∀ i, (V (Proc.devRef .tc main_v146_10) : S_.Idx → BitVec 32) i = BitVec.ofNat 32 k.val
  xf : ∀ t b d, (V (Proc.devRef .tc main_v146_0) : FVec Ideal S128x32x32 .f32) (ix3 t b d) = A.feat b t d
  xr : ∀ b d, (V (Proc.devRef .tc main_v146_1) : FVec Ideal S128x32x32 .f32) (ix3 0 b d) = A.feat b 127 d
  Wxf : ∀ n d, (V (Proc.devRef .tc main_v146_2) : FVec Ideal S512x32 .f32) (ix2 n d) = A.Wxf n d
  bxf : ∀ n, (V (Proc.devRef .tc main_v146_3) : FVec Ideal S512 .f32) (ix1 n) = A.bxf n
  Whf : ∀ n j, (V (Proc.devRef .tc main_v146_4) : FVec Ideal S512x128 .f32) (ix2 n j) = A.Whf n j
  bhf : ∀ n, (V (Proc.devRef .tc main_v146_5) : FVec Ideal S512 .f32) (ix1 n) = A.bhf n
  Wxr : ∀ n d, (V (Proc.devRef .tc main_v146_6) : FVec Ideal S512x32 .f32) (ix2 n d) = A.Wxr n d
  bxr : ∀ n, (V (Proc.devRef .tc main_v146_7) : FVec Ideal S512 .f32) (ix1 n) = A.bxr n
  bhr : ∀ n, (V (Proc.devRef .tc main_v146_9) : FVec Ideal S512 .f32) (ix1 n) = A.bhr n

/-- The forward states held before step `k`. -/
def Fwd (A : Args) (k : ℕ) (V : Valuation τ sig (Elt Ideal)) : Prop :=
  (∀ b l, (V (Proc.devRef .tc main_v146_11) : FVec Ideal S32x128 .f32) (ix2 b l) = (states (A.fwd b) A.Whf k).1 l)
    ∧ ∀ b l, (V (Proc.devRef .tc main_v146_12) : FVec Ideal S32x128 .f32) (ix2 b l) = (states (A.fwd b) A.Whf k).2 l

/-- The forward gates of a step. -/
theorem gates_fwd {A : Args} {k : Fin 128} {V : Valuation τ sig (Elt Ideal)} (H : Reads A k V) (h : Fwd A k V) (b : Fin 32) (n : Fin 512) :
    (res_main_while0b_v167 V : FVec Ideal S32x512 .f32) (ix2 b n) = gatesAt (A.fwd b k) A.Whf (states (A.fwd b) A.Whf k).1 n := by
  have e : Fin.ofNat 128 k.val = k := Fin.ext (Nat.mod_eq_of_lt k.isLt)
  refine (gate_eq (v := A.feat b k) (fun d => (slice_at _ _ k H.ctr b d).trans (H.xf k b d)) H.Wxf H.bxf H.bhf (h.1 b) H.Whf n).trans ?_
  rw [Args.fwd, e]

/-- The forward states after a step. -/
theorem cell_fwd {A : Args} {k : Fin 128} {V : Valuation τ sig (Elt Ideal)} (H : Reads A k V) (h : Fwd A k V) (b : Fin 32) (l : Fin 128) :
    (res_main_while0b_v195 V : FVec Ideal S32x128 .f32) (ix2 b l) = (states (A.fwd b) A.Whf (k + 1)).1 l
      ∧ (res_main_while0b_v193 V : FVec Ideal S32x128 .f32) (ix2 b l) = (states (A.fwd b) A.Whf (k + 1)).2 l := by
  have hc : (res_main_while0b_v193 V : FVec Ideal S32x128 .f32) (ix2 b l) = (states (A.fwd b) A.Whf (k + 1)).2 l := by
    refine (cellC_at _ _ b l).trans ?_
    simp only [gates_fwd H h, h.2]
    rfl
  refine ⟨?_, hc⟩
  refine (cellH_at _ _ b l).trans ?_
  rw [hc, gates_fwd H h]
  rfl

/-- The reverse hidden state after the first step: only the last frame has been read. -/
theorem cell_rev {A : Args} {V : Valuation τ sig (Elt Ideal)} (H : Reads A 0 V)
    (h0 : ∀ b l, (V (Proc.devRef .tc main_v146_13) : FVec Ideal S32x128 .f32) (ix2 b l) = (0 : EReal))
    (c0 : ∀ b l, (V (Proc.devRef .tc main_v146_14) : FVec Ideal S32x128 .f32) (ix2 b l) = (0 : EReal)) (b : Fin 32) (l : Fin 128) :
    (res_main_while0b_v234 V : FVec Ideal S32x128 .f32) (ix2 b l) = first (gates (A.feat b 127) A.Wxr A.bxr A.bhr) l := by
  have hg : ∀ n, (res_main_while0b_v206 V : FVec Ideal S32x512 .f32) (ix2 b n) = gates (A.feat b 127) A.Wxr A.bxr A.bhr n := by
    intro n
    refine (gate_eq (v := A.feat b 127) (fun d => (slice_at _ _ 0 H.ctr b d).trans (H.xr b d)) H.Wxr H.bxr H.bhr (h0 b) (fun _ _ => rfl) n).trans ?_
    simp only [gatesAt, zero_mul, Finset.sum_const_zero, add_zero]
  have hc : (res_main_while0b_v232 V : FVec Ideal S32x128 .f32) (ix2 b l) = cellC (gates (A.feat b 127) A.Wxr A.bxr A.bhr) (fun _ => 0) l := by
    refine (cellC_at _ _ b l).trans ?_
    simp only [hg, c0]
  refine (cellH_at _ _ b l).trans ?_
  rw [hc, hg]
  simp only [cellC, first, mul_zero, zero_add]

/-- What holds before step `k` of the scan, from step 0 on. -/
structure ScanInv (A : Args) (k : ℕ) (V : Valuation τ sig (Elt Ideal)) : Prop where
  reads : ∀ h : k < 128, Reads A ⟨k, h⟩ V
  fwd : Fwd A k V
  rev0 : k = 0 → (∀ b l, (V (Proc.devRef .tc main_v146_13) : FVec Ideal S32x128 .f32) (ix2 b l) = (0 : EReal))
    ∧ ∀ b l, (V (Proc.devRef .tc main_v146_14) : FVec Ideal S32x128 .f32) (ix2 b l) = (0 : EReal)
  hsf : ∀ t : Fin 128, t.val + 1 = k → ∀ b l, (V (Proc.devRef .tc main_v146_15) : FVec Ideal S128x32x128 .f32) (ix3 t b l) = (states (A.fwd b) A.Whf k).1 l
  hsr : 0 < k → ∀ b l, (V (Proc.devRef .tc main_v146_16) : FVec Ideal S128x32x128 .f32) (ix3 0 b l) = first (gates (A.feat b 127) A.Wxr A.bxr A.bhr) l

/-- A step of the scan keeps what it reads and moves the counter on. -/
theorem reads_step {A : Args} {k : ℕ} {V : Valuation τ sig (Elt Ideal)} (hk : k < 128) (hk' : k + 1 < 128) (H : Reads A ⟨k, hk⟩ V) :
    Reads A ⟨k + 1, hk'⟩ (STEP V) where
  ctr i := by
    rw [STEP_main_v146_10]
    refine (congrArg (fun n : BitVec 32 => n + 1#32) (H.ctr i)).trans ?_
    exact BitVec.ofNat_add k 1 |>.symm
  xf := by rw [STEP_main_v146_0]; exact H.xf
  xr := by rw [STEP_main_v146_1]; exact H.xr
  Wxf := by rw [STEP_main_v146_2]; exact H.Wxf
  bxf := by rw [STEP_main_v146_3]; exact H.bxf
  Whf := by rw [STEP_main_v146_4]; exact H.Whf
  bhf := by rw [STEP_main_v146_5]; exact H.bhf
  Wxr := by rw [STEP_main_v146_6]; exact H.Wxr
  bxr := by rw [STEP_main_v146_7]; exact H.bxr
  bhr := by rw [STEP_main_v146_9]; exact H.bhr

/-- A step of the scan keeps the invariant. -/
theorem inv_step {A : Args} {k : ℕ} {V : Valuation τ sig (Elt Ideal)} (hk : k < 128) (H : ScanInv A k V) : ScanInv A (k + 1) (STEP V) where
  reads h := reads_step hk h (H.reads hk)
  fwd := by
    refine ⟨?_, ?_⟩
    · rw [STEP_main_v146_11]
      exact fun b l => (cell_fwd (H.reads hk) H.fwd b l).1
    · rw [STEP_main_v146_12]
      exact fun b l => (cell_fwd (H.reads hk) H.fwd b l).2
  rev0 h := absurd h (Nat.succ_ne_zero k)
  hsf t ht b l := by
    rw [STEP_main_v146_15]
    refine (update_at _ _ _ ⟨k, hk⟩ (H.reads hk).ctr t b l).trans ?_
    rw [if_pos (Fin.ext (by simpa using ht))]
    exact (cell_fwd (H.reads hk) H.fwd b l).1
  hsr _ b l := by
    rw [STEP_main_v146_16]
    refine (update_at _ _ _ ⟨k, hk⟩ (H.reads hk).ctr 0 b l).trans ?_
    by_cases e : k = 0
    · subst e
      refine (if_pos rfl).trans ?_
      exact cell_rev (H.reads hk) (H.rev0 rfl).1 (H.rev0 rfl).2 b l
    · rw [if_neg (fun h => e (congrArg Fin.val h).symm)]
      exact H.hsr (Nat.pos_of_ne_zero e) b l

/-- The invariant at every step from the one at the scan's start. -/
theorem inv_iter {A : Args} {V : Valuation τ sig (Elt Ideal)} (H : ScanInv A 0 V) : ∀ k, k ≤ 128 → ScanInv A k (STEP^[k] V)
  | 0, _ => H
  | k + 1, h => by
    rw [Function.iterate_succ_apply']
    exact inv_step (by omega) (inv_iter H k (by omega))

/-- The result from what the scan leaves: the last forward state and the reverse one, through the classifier. -/
theorem out_eq {A : Args} {V : Valuation τ sig (Elt Ideal)} (H : ScanInv A 128 V)
    (hW : ∀ k, (V (Proc.devRef .tc main_arg17) : FVec Ideal S256x1 .f32) (ix2 k 0) = A.Wc k)
    (hb : (V (Proc.devRef .tc main_arg18) : FVec Ideal S1 .f32) (ix1 0) = A.bc) (b : Fin 32) (z : Fin 1) :
    (out_main_v154 V : FVec Ideal S32x1 .f32) (ix2 b z) = A.out b := by
  have hf := H.hsf 127 rfl b
  have hr := H.hsr (by decide) b
  obtain rfl : z = 0 := Subsingleton.elim _ _
  unfold out_main_v154
  generalize V (Proc.devRef .tc main_v146_15) = F at hf ⊢
  generalize V (Proc.devRef .tc main_v146_16) = R at hr ⊢
  generalize V (Proc.devRef .tc main_arg17) = W at hW ⊢
  generalize V (Proc.devRef .tc main_arg18) = B at hb ⊢
  pointwise [Args.out, logit]
  refine congrArg₂ (· + ·) (congrArg₂ (· + ·) (Finset.sum_congr rfl fun k _ => ?_) (Finset.sum_congr rfl fun k _ => ?_)) hb
  · rw [hf, hW]
  · exact congrArg₂ (· * ·) (hr k) (hW _)

end Cert.ReferenceIdeal.Value

end
-- ==== Proof.RefEntry.lean ====
/- The contents of the arrays the scan reads, at its entry. -/
module

public import Idealize.ShloMosaic.Lib.StableHlo.ReadAt
public import Idealize.ShloMosaic.Lib.StableHlo.RunRead
public import proofs.«01_k».proof.Proof.Features
public import proofs.«01_k».proof.Proof.RefReads
public import proofs.«01_k».proof.Proof.RefLoop

@[expose] public section

noncomputable section
set_option maxRecDepth 16384

namespace Cert.ReferenceIdeal.Value
open Idealize.ShloMosaic Idealize.ShloMosaic.TcCoe Idealize.ShloMosaic.StableHlo
open Idealize.SL Idealize.SL.Sem
open Cert.Model Cert.ReferenceIdeal.Gen

/-- Stretch 3 leaves the sources' nodes as they are. -/
theorem keep_v10_3 (V : Valuation τ sig (Elt Ideal)) : after hostOps0_3 V (Proc.devRef .tc main_v10) = V (Proc.devRef .tc main_v10) :=
  after_of_writes_sub hostOps0_3 V hostOps0_3_writes (by decide +kernel)

/-- Stretch 3 leaves the destinations' nodes as they are. -/
theorem keep_v14_3 (V : Valuation τ sig (Elt Ideal)) : after hostOps0_3 V (Proc.devRef .tc main_v14) = V (Proc.devRef .tc main_v14) :=
  after_of_writes_sub hostOps0_3 V hostOps0_3_writes (by decide +kernel)

/-- Stretch 4 leaves the sources' nodes as they are. -/
theorem keep_v10_4 (V : Valuation τ sig (Elt Ideal)) : after hostOps0_4 V (Proc.devRef .tc main_v10) = V (Proc.devRef .tc main_v10) :=
  after_of_writes_sub hostOps0_4 V hostOps0_4_writes (by decide +kernel)

/-- Stretch 4 leaves the destinations' nodes as they are. -/
theorem keep_v14_4 (V : Valuation τ sig (Elt Ideal)) : after hostOps0_4 V (Proc.devRef .tc main_v14) = V (Proc.devRef .tc main_v14) :=
  after_of_writes_sub hostOps0_4 V hostOps0_4_writes (by decide +kernel)

/-- Stretch 5 leaves the sources' nodes as they are. -/
theorem keep_v10_5 (V : Valuation τ sig (Elt Ideal)) : after hostOps0_5 V (Proc.devRef .tc main_v10) = V (Proc.devRef .tc main_v10) :=
  after_of_writes_sub hostOps0_5 V hostOps0_5_writes (by decide +kernel)

/-- Stretch 5 leaves the destinations' nodes as they are. -/
theorem keep_v14_5 (V : Valuation τ sig (Elt Ideal)) : after hostOps0_5 V (Proc.devRef .tc main_v14) = V (Proc.devRef .tc main_v14) :=
  after_of_writes_sub hostOps0_5 V hostOps0_5_writes (by decide +kernel)

/-- The sources of the edges, by their nodes. -/
def sources : IVec S1892352 32 := ends (iotaInDim S4096x22x21 32 0) (iotaInDim S4096x22x21 32 1)

/-- The destinations of the edges, by their nodes. -/
def targets : IVec S1892352 32 := ends (iotaInDim S4096x22x21 32 0) neighbours

/-- A frame's number along its edges. -/
theorem frames_at (f : Fin 4096) (i : Fin 22) (k : Fin 21) : iotaInDim S4096x22x21 32 0 (ix3 f i k) = BitVec.ofNat 32 f.val := rfl

/-- An agent's number along its edges. -/
theorem agents_at (f : Fin 4096) (i : Fin 22) (k : Fin 21) : iotaInDim S4096x22x21 32 1 (ix3 f i k) = BitVec.ofNat 32 i.val := rfl

/-- The edges join every agent of a frame with every other. -/
theorem edges : Edges sources targets where
  src f i k := ends_at _ _ f i k i (frames_at f i k) (agents_at f i k)
  dst f i k := ends_at _ _ f i k (other i k) (frames_at f i k) (neighbours_at f i k)

variable (X : Valuation τ sig (Elt Ideal))

/-- The state after all the host stretches before the scan but the last. -/
def before : Valuation τ sig (Elt Ideal) := (after hostOps0_7 (after hostOps0_6 (after hostOps0_5 (after hostOps0_4 (after hostOps0_3 (after hostOps0_2 (after hostOps0_1 (after hostOps0 X))))))))

/-- The state after all of them. -/
def entry : Valuation τ sig (Elt Ideal) := after hostOps0_8 (before X)

/-- The nodes' values the pooling reads. -/
theorem nodes_eq : before X (Proc.devRef .tc main_v134)
    = hidden2 (X (Proc.devRef .tc main_arg0)) (X (Proc.devRef .tc main_arg3)) (X (Proc.devRef .tc main_arg4)) (X (Proc.devRef .tc main_arg5))
        (X (Proc.devRef .tc main_arg6)) (X (Proc.devRef .tc main_arg7)) (X (Proc.devRef .tc main_arg8)) sources targets := by
  unfold before
  rw [read_v134, read_v133]
  rw [keep_v10_5, keep_v10_4, keep_v10_3, keep_v14_5, keep_v14_4, keep_v14_3]
  rw [read_v77, read_v76, keep_v10_3, keep_v14_3, read_v20, read_v19, read_v10, read_v14, read_v0, read_v1, read_v6]
  rw [keep_main_arg8_hostOps0_5, keep_main_arg8_hostOps0_4, keep_main_arg8_hostOps0_3, keep_main_arg8_hostOps0_2, keep_main_arg8_hostOps0_1, keep_main_arg8_hostOps0]
  rw [keep_main_arg7_hostOps0_5, keep_main_arg7_hostOps0_4, keep_main_arg7_hostOps0_3, keep_main_arg7_hostOps0_2, keep_main_arg7_hostOps0_1, keep_main_arg7_hostOps0]
  rw [keep_main_arg6_hostOps0_3, keep_main_arg6_hostOps0_2, keep_main_arg6_hostOps0_1, keep_main_arg6_hostOps0]
  rw [keep_main_arg5_hostOps0_3, keep_main_arg5_hostOps0_2, keep_main_arg5_hostOps0_1, keep_main_arg5_hostOps0]
  rw [keep_main_arg4_hostOps0_1, keep_main_arg4_hostOps0]
  rw [keep_main_arg3_hostOps0_1, keep_main_arg3_hostOps0]
  rw [keep_main_arg0_hostOps0_1, keep_main_arg0_hostOps0]
  rfl

/-- The scan's weights and biases are copies of the arguments. -/
theorem copies (Y : Valuation τ sig (Elt Ideal)) :
    after hostOps0_8 Y (Proc.devRef .tc main_v146_2) = after hostOps0_8 Y (Proc.devRef .tc main_arg9) ∧
    after hostOps0_8 Y (Proc.devRef .tc main_v146_3) = after hostOps0_8 Y (Proc.devRef .tc main_arg11) ∧
    after hostOps0_8 Y (Proc.devRef .tc main_v146_4) = after hostOps0_8 Y (Proc.devRef .tc main_arg10) ∧
    after hostOps0_8 Y (Proc.devRef .tc main_v146_5) = after hostOps0_8 Y (Proc.devRef .tc main_arg12) ∧
    after hostOps0_8 Y (Proc.devRef .tc main_v146_6) = after hostOps0_8 Y (Proc.devRef .tc main_arg13) ∧
    after hostOps0_8 Y (Proc.devRef .tc main_v146_7) = after hostOps0_8 Y (Proc.devRef .tc main_arg15) ∧
    after hostOps0_8 Y (Proc.devRef .tc main_v146_9) = after hostOps0_8 Y (Proc.devRef .tc main_arg16) := by
  refine ⟨?_, ?_, ?_, ?_, ?_, ?_, ?_⟩ <;>
  · simp only [hostOps0_8]
    after_reads_simp
    rfl

/-- A state's start. -/
def zeroState : FVec Ideal S32x128 .f32 := broadcastInDim S32x128 ![] bcast_S_S32x128 (constant S_ .f32 0x00000000#32)

/-- A state's start, at a lane. -/
theorem zero_state_at (b : Fin 32) (l : Fin 128) : zeroState (ix2 b l) = (0 : EReal) := by
  pointwise [zeroState]

/-- The times reversed: the first frame is the last one. -/
theorem reverse_at (x : FVec Ideal S128x32x32 .f32) (b d : Fin 32) : Host.reverse [0] x (ix3 0 b d) = x (ix3 127 b d) := by
  pointwise
  rfl

/-- The four states start at zero. -/
theorem starts (Y : Valuation τ sig (Elt Ideal)) :
    after hostOps0_8 Y (Proc.devRef .tc main_v146_11) = zeroState ∧
    after hostOps0_8 Y (Proc.devRef .tc main_v146_12) = zeroState ∧
    after hostOps0_8 Y (Proc.devRef .tc main_v146_13) = zeroState ∧
    after hostOps0_8 Y (Proc.devRef .tc main_v146_14) = zeroState := by
  refine ⟨?_, ?_, ?_, ?_⟩ <;>
  · simp only [hostOps0_8]
    after_reads_simp
    rfl

variable (m : (ℓ : Loc nD τ sig) → Buf (Elt Ideal) ℓ)

/-- The reference's arguments by their coordinates. -/
def args (c : Dev nD) : Args where
  x b t a f := m ((c : Thread nD τ).loc main_arg0) (ix4 b t a f)
  W f e := m ((c : Thread nD τ).loc main_arg3) (ix2 f e)
  b e := m ((c : Thread nD τ).loc main_arg4) (ix1 e)
  W1 k e := m ((c : Thread nD τ).loc main_arg5) (ix2 k e)
  b1 e := m ((c : Thread nD τ).loc main_arg6) (ix1 e)
  W2 k e := m ((c : Thread nD τ).loc main_arg7) (ix2 k e)
  b2 e := m ((c : Thread nD τ).loc main_arg8) (ix1 e)
  Wxf n d := m ((c : Thread nD τ).loc main_arg9) (ix2 n d)
  Whf n j := m ((c : Thread nD τ).loc main_arg10) (ix2 n j)
  bxf n := m ((c : Thread nD τ).loc main_arg11) (ix1 n)
  bhf n := m ((c : Thread nD τ).loc main_arg12) (ix1 n)
  Wxr n d := m ((c : Thread nD τ).loc main_arg13) (ix2 n d)
  bxr n := m ((c : Thread nD τ).loc main_arg15) (ix1 n)
  bhr n := m ((c : Thread nD τ).loc main_arg16) (ix1 n)
  Wc k := m ((c : Thread nD τ).loc main_arg17) (ix2 k 0)
  bc := m ((c : Thread nD τ).loc main_arg18) (ix1 0)

/-- The state at the scan's entry, from the contents the run begins with. -/
theorem entry_eq (c : Dev nD) : entryContents preI m c = entry (fun b => m (c, b)) := by
  simp only [entryContents, afterL_cons, afterL_nil]
  rfl

/-- The scan's states start at zero. -/
theorem zeros (c : Dev nD) :
    entryContents preI m c (Proc.devRef .tc main_v146_11) = zeroState ∧
    entryContents preI m c (Proc.devRef .tc main_v146_12) = zeroState ∧
    entryContents preI m c (Proc.devRef .tc main_v146_13) = zeroState ∧
    entryContents preI m c (Proc.devRef .tc main_v146_14) = zeroState := by
  rw [entry_eq]
  exact starts _

/-- The scan's weights and biases are the arguments'. -/
theorem inputs (c : Dev nD) :
    entryContents preI m c (Proc.devRef .tc main_v146_2) = m ((c : Thread nD τ).loc main_arg9) ∧
    entryContents preI m c (Proc.devRef .tc main_v146_3) = m ((c : Thread nD τ).loc main_arg11) ∧
    entryContents preI m c (Proc.devRef .tc main_v146_4) = m ((c : Thread nD τ).loc main_arg10) ∧
    entryContents preI m c (Proc.devRef .tc main_v146_5) = m ((c : Thread nD τ).loc main_arg12) ∧
    entryContents preI m c (Proc.devRef .tc main_v146_6) = m ((c : Thread nD τ).loc main_arg13) ∧
    entryContents preI m c (Proc.devRef .tc main_v146_7) = m ((c : Thread nD τ).loc main_arg15) ∧
    entryContents preI m c (Proc.devRef .tc main_v146_9) = m ((c : Thread nD τ).loc main_arg16) := by
  have h := copies (before fun b => m (c, b))
  rw [show after hostOps0_8 (before fun b => m (c, b)) = entryContents preI m c from (entry_eq m c).symm] at h
  obtain ⟨h2, h3, h4, h5, h6, h7, h9⟩ := h
  exact ⟨h2.trans (iter_main_arg9 m c 0), h3.trans (iter_main_arg11 m c 0), h4.trans (iter_main_arg10 m c 0), h5.trans (iter_main_arg12 m c 0),
    h6.trans (iter_main_arg13 m c 0), h7.trans (iter_main_arg15 m c 0), h9.trans (iter_main_arg16 m c 0)⟩

/-- The features at the scan's entry. -/
theorem entry_feat (c : Dev nD) (b : Fin 32) (t : Fin 128) (d : Fin 32) :
    pool (hidden2 (m ((c : Thread nD τ).loc main_arg0)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) sources targets) (ix3 t b d) = (args m c).feat b t d :=
  features_at _ _ _ _ _ _ _ edges b t d

/-- The scan's invariant holds at its entry. -/
theorem entry_inv (c : Dev nD) : ScanInv (args m c) 0 (entryContents preI m c) where
  reads h :=
    { ctr := fun i => congrFun (ctr_entry m c) i
      xf := fun t b d => by
        rw [entry_eq]
        exact (congrFun ((read_xs _).trans (congrArg pool (nodes_eq _))) (ix3 t b d)).trans (entry_feat m c b t d)
      xr := fun b d => by
        rw [entry_eq]
        exact (congrFun ((read_xs_rev _).trans (congrArg (fun y => Host.reverse [0] (pool y)) (nodes_eq _))) (ix3 0 b d)).trans
          ((reverse_at _ b d).trans (entry_feat m c b 127 d))
      Wxf := fun n d => congrFun (inputs m c).1 (ix2 n d)
      bxf := fun n => congrFun (inputs m c).2.1 (ix1 n)
      Whf := fun n j => congrFun (inputs m c).2.2.1 (ix2 n j)
      bhf := fun n => congrFun (inputs m c).2.2.2.1 (ix1 n)
      Wxr := fun n d => congrFun (inputs m c).2.2.2.2.1 (ix2 n d)
      bxr := fun n => congrFun (inputs m c).2.2.2.2.2.1 (ix1 n)
      bhr := fun n => congrFun (inputs m c).2.2.2.2.2.2 (ix1 n) }
  fwd := ⟨fun b l => (congrFun (zeros m c).1 (ix2 b l)).trans (zero_state_at b l), fun b l => (congrFun (zeros m c).2.1 (ix2 b l)).trans (zero_state_at b l)⟩
  rev0 _ := ⟨fun b l => (congrFun (zeros m c).2.2.1 (ix2 b l)).trans (zero_state_at b l), fun b l => (congrFun (zeros m c).2.2.2 (ix2 b l)).trans (zero_state_at b l)⟩
  hsf t h := absurd h (Nat.succ_ne_zero _)
  hsr h := absurd h (Nat.lt_irrefl 0)

/-- The reference's result of every batch row. -/
theorem final (c : Dev nD) : out_main_v154 (STEP^[128] (entryContents preI m c)) = fun j => (args m c).out (j 0) := by
  funext j
  obtain ⟨b, q, rfl⟩ : ∃ b q, j = ix2 b q := ⟨_, _, eq_ix2 j⟩
  exact out_eq (inv_iter (entry_inv m c) 128 le_rfl) (fun k => congrFun (iter_main_arg17 m c 128) (ix2 k 0))
    (congrFun (iter_main_arg18 m c 128) (ix1 0)) b q

end Cert.ReferenceIdeal.Value

end
-- ==== Proof.Equation.lean ====
/- The equation: over the extended reals the kernel and the reference return the same array. -/
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.KernelArray
public import proofs.«01_k».proof.Proof.RefEntry

@[expose] public section

noncomputable section

namespace Cert.Proof
open Idealize.ShloMosaic Idealize.ShloMosaic.TcCoe
open Idealize.SL Idealize.SL.Sem

/-- Runs that begin with the same arguments end with the same result. -/
theorem algebraic : Cert.algebraic_KernelIdeal_ReferenceIdeal := by
  intro m g m' g' _ hm
  have hA : ∀ c, Cert.ReferenceIdeal.Value.args m' c = Cert.KernelIdeal.Value.args m c := fun c => by
    obtain ⟨h0, -, -, h3, h4, h5, h6, h7, h8, h9, h10, h11, h12, h13, -, h15, h16, h17, h18⟩ := hm c
    unfold Cert.ReferenceIdeal.Value.args Cert.KernelIdeal.Value.args
    rw [h0, h3, h4, h5, h6, h7, h8, h9, h10, h11, h12, h13, h15, h16, h17, h18]
  refine ⟨fun c j => (Cert.KernelIdeal.Value.args m c).out (j 0), ?_, ?_⟩
  · exact (θ_run _ _ _).mono (fun r h c => ⟨(h c).1.trans (Cert.KernelIdeal.Value.final m c), (h c).2⟩)
      (Cert.KernelIdeal.Value.run_blocks m g)
  · exact (θ_run _ _ _).mono (fun r h c => ⟨(h c).1.trans ((Cert.ReferenceIdeal.Value.final m' c).trans (by rw [hA c]; rfl)), (h c).2⟩)
      (Cert.ReferenceIdeal.Value.run m' g')

end Cert.Proof

end
-- ==== Proof.lean ====
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run

@[expose] public section

noncomputable section

namespace Cert.Proof

/-- Everything claimed: the three frames, the named constant and the equation. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
